-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S16384x512 : Shape := ⟨2, ![16384, 512]⟩
abbrev S100000x8x128 : Shape := ⟨3, ![100000, 8, 128]⟩
abbrev S512x8 : Shape := ⟨2, ![512, 8]⟩
abbrev S8 : Shape := ⟨1, ![8]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S16384x512 .f32) (main_arg2 : FVec F S100000x8x128 .f32) (main_arg3 : FVec F S512x8 .f32) (main_arg4 : FVec F S8 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S16384x512 : Shape := ⟨2, ![16384, 512]⟩
abbrev S100000x8x128 : Shape := ⟨3, ![100000, 8, 128]⟩
abbrev S512x8 : Shape := ⟨2, ![512, 8]⟩
abbrev S8 : Shape := ⟨1, ![8]⟩
abbrev S1x8 : Shape := ⟨2, ![1, 8]⟩
abbrev S16384x16 : Shape := ⟨2, ![16384, 16]⟩
abbrev S4096x512 : Shape := ⟨2, ![4096, 512]⟩
abbrev S4096x16 : Shape := ⟨2, ![4096, 16]⟩
abbrev S4096x8 : Shape := ⟨2, ![4096, 8]⟩
abbrev S4096 : Shape := ⟨1, ![4096]⟩
abbrev S4096x1 : Shape := ⟨2, ![4096, 1]⟩
abbrev S16384x1 : Shape := ⟨2, ![16384, 1]⟩
abbrev S_ : Shape := ⟨0, ![]⟩
abbrev S16384x8 : Shape := ⟨2, ![16384, 8]⟩
abbrev S131072 : Shape := ⟨1, ![131072]⟩
abbrev S800000x128 : Shape := ⟨2, ![800000, 128]⟩
abbrev S16384x128 : Shape := ⟨2, ![16384, 128]⟩
abbrev S64x128 : Shape := ⟨2, ![64, 128]⟩
abbrev S8x16 : Shape := ⟨2, ![8, 16]⟩
abbrev S8x128 : Shape := ⟨2, ![8, 128]⟩
abbrev S64 : Shape := ⟨1, ![64]⟩
abbrev S1x16 : Shape := ⟨2, ![1, 16]⟩
abbrev S16 : Shape := ⟨1, ![16]⟩
abbrev S1 : Shape := ⟨1, ![1]⟩

abbrev nBuf : Table → Nat
  | .hbm => 19
  | .local .tc .vmem => 6
  | .local .scVector .vmem => 19
  | _ => 0

abbrev bufTy : (tb : Table) → Fin (nBuf tb) → BufTy
  | .hbm, ⟨0, _⟩ => ⟨S16384, .i32⟩
  | .hbm, ⟨1, _⟩ => ⟨S16384x512, .f32⟩
  | .hbm, ⟨2, _⟩ => ⟨S100000x8x128, .f32⟩
  | .hbm, ⟨3, _⟩ => ⟨S512x8, .f32⟩
  | .hbm, ⟨4, _⟩ => ⟨S8, .f32⟩
  | .hbm, ⟨5, _⟩ => ⟨S1x8, .f32⟩
  | .hbm, ⟨6, _⟩ => ⟨S16384x16, .f32⟩
  | .hbm, ⟨7, _⟩ => ⟨S16384x1, .i32⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S8, .i32⟩
  | .hbm, ⟨12, _⟩ => ⟨S1x8, .i32⟩
  | .hbm, ⟨13, _⟩ => ⟨S16384x8, .i32⟩
  | .hbm, ⟨14, _⟩ => ⟨S16384x8, .i32⟩
  | .hbm, ⟨15, _⟩ => ⟨S16384x8, .i32⟩
  | .hbm, ⟨16, _⟩ => ⟨S131072, .i32⟩
  | .hbm, ⟨17, _⟩ => ⟨S800000x128, .f32⟩
  | .hbm, ⟨18, _⟩ => ⟨S16384x128, .f32⟩
  | .local .tc .vmem, ⟨0, _⟩ => ⟨S4096x512, .f32⟩
  | .local .tc .vmem, ⟨1, _⟩ => ⟨S4096x512, .f32⟩
  | .local .tc .vmem, ⟨2, _⟩ => ⟨S512x8, .f32⟩
  | .local .tc .vmem, ⟨3, _⟩ => ⟨S1x8, .f32⟩
  | .local .tc .vmem, ⟨4, _⟩ => ⟨S4096x16, .f32⟩
  | .local .tc .vmem, ⟨5, _⟩ => ⟨S4096x16, .f32⟩
  | .local .scVector .vmem, ⟨0, _⟩ => ⟨S4096, .i32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S8x16, .f32⟩
  | .local .scVector .vmem, ⟨10, _⟩ => ⟨S8x16, .f32⟩
  | .local .scVector .vmem, ⟨11, _⟩ => ⟨S8x16, .f32⟩
  | .local .scVector .vmem, ⟨12, _⟩ => ⟨S8x16, .f32⟩
  | .local .scVector .vmem, ⟨13, _⟩ => ⟨S8x16, .f32⟩
  | .local .scVector .vmem, ⟨14, _⟩ => ⟨S8x16, .f32⟩
  | .local .scVector .vmem, ⟨15, _⟩ => ⟨S8x16, .f32⟩
  | .local .scVector .vmem, ⟨16, _⟩ => ⟨S8x16, .f32⟩
  | .local .scVector .vmem, ⟨17, _⟩ => ⟨S8x128, .f32⟩
  | .local .scVector .vmem, ⟨18, _⟩ => ⟨S8x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v10_scv : Ref sig .scVector := ⟨.hbm, 16, rfl⟩
abbrev main_v1_scv : Ref sig .scVector := ⟨.hbm, 6, rfl⟩
abbrev main_v11_scv : Ref sig .scVector := ⟨.hbm, 17, rfl⟩
abbrev main_v12_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc1_scratch14 : Ref sig .scVector := ⟨.vmem, 14, rfl⟩
abbrev cc1_scratch15 : Ref sig .scVector := ⟨.vmem, 15, rfl⟩
abbrev cc1_scratch16 : Ref sig .scVector := ⟨.vmem, 16, rfl⟩
abbrev cc1_scratch17 : Ref sig .scVector := ⟨.vmem, 17, rfl⟩
abbrev cc1_scratch18 : Ref sig .scVector := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c8_i32 : BitVec 32 := 8#32
  let v3 : BitVec 32 := Scalar.muli v2 c8_i32
  ![v3.toNat]
def k1_off2 (i : grid1.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v6 : BitVec 32 := Scalar.addi v2 c0_i32_2
  let c0_i32_3 : BitVec 32 := 0#32
  ![v6.toNat, 0]
@[reducible] def k1_t1_loop : Scf.Loop 32 :=
  let c0_i32_35 : BitVec 32 := 0#32
  let c8_i32_36 : BitVec 32 := 8#32
  let v44 : BitVec 32 := Scalar.addi c0_i32_35 c8_i32_36
  let c1_i32 : BitVec 32 := 1#32
  ⟨c0_i32_35, v44, c1_i32⟩
def k1_off3 (k1_t1 : Fin k1_t1_loop.trips) (c0_i32_45 : BitVec 32) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let v52 : BitVec 32 := Scalar.addi v51 c0_i32_45
  let c8_i32_46 : BitVec 32 := 8#32
  let v53 : BitVec 32 := Scalar.muli v52 c8_i32_46
  let c8_i32_47 : BitVec 32 := 8#32
  let v54 : BitVec 32 := Scalar.muli v53 c8_i32_47
  ![v54.toNat]
def k1_off4 (i : grid1.Coords) (k1_t1 : Fin k1_t1_loop.trips) (c0_i32_45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let v52 : BitVec 32 := Scalar.addi v51 c0_i32_45
  let c8_i32_50 : BitVec 32 := 8#32
  let v57 : BitVec 32 := Scalar.muli v52 c8_i32_50
  let v58 : BitVec 32 := Scalar.addi v2 v57
  let c0_i32_51 : BitVec 32 := 0#32
  ![v58.toNat, 0]
def k1_cond1 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c0_i32_45 : BitVec 32 := 0#32
  let v52 : BitVec 32 := Scalar.addi v51 c0_i32_45
  let c2_i32_53 : BitVec 32 := 2#32
  let v61 : BitVec 1 := Scalar.cmpi .sge v52 c2_i32_53
  let v62 : BitVec 32 := Scalar.extui v61
  let c0_i32_54 : BitVec 32 := 0#32
  let v63 : BitVec 1 := Scalar.cmpi .ne v62 c0_i32_54
  v63

def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c0_i32_45 : BitVec 32 := 0#32
  let v52 : BitVec 32 := Scalar.addi v51 c0_i32_45
  let c8_i32_208 : BitVec 32 := 8#32
  let v220 : BitVec 32 := Scalar.muli v52 c8_i32_208
  let v221 : BitVec 32 := Scalar.addi v2 v220
  let c0_i32_209 : BitVec 32 := 0#32
  ![v221.toNat, 0]
@[reducible] def k1_t2_loop : Scf.Loop 32 :=
  let c0_i32_56 : BitVec 32 := 0#32
  let c8_i32_57 : BitVec 32 := 8#32
  let v64 : BitVec 32 := Scalar.addi c0_i32_56 c8_i32_57
  let c1_i32_58 : BitVec 32 := 1#32
  ⟨c0_i32_56, v64, c1_i32_58⟩
def k1_off6 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v220 : Index := Scalar.indexCast arg44
  let c0 : Index := 0#32
  ![v220.toNat, 0]
def k1_off7 (k1_t2 : Fin k1_t2_loop.trips) (c0_i32_209 : BitVec 32) : Fin 2 → Nat :=
  let c0_i32_56 : BitVec 32 := 0#32
  let c1_i32_58 : BitVec 32 := 1#32
  let arg44 : BitVec 32 := Scf.iv c0_i32_56 c1_i32_58 k1_t2
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off8 (k1_t2 : Fin k1_t2_loop.trips) (c0_i32_233 : BitVec 32) : Fin 2 → Nat :=
  let c0_i32_56 : BitVec 32 := 0#32
  let c1_i32_58 : BitVec 32 := 1#32
  let arg44 : BitVec 32 := Scf.iv c0_i32_56 c1_i32_58 k1_t2
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off9 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v342 : Index := Scalar.indexCast arg44
  let c0_255 : Index := 0#32
  ![v342.toNat, 0]
def k1_off10 (k1_t2 : Fin k1_t2_loop.trips) (c0_i32_257 : BitVec 32) : Fin 2 → Nat :=
  let c0_i32_56 : BitVec 32 := 0#32
  let c1_i32_58 : BitVec 32 := 1#32
  let arg44 : BitVec 32 := Scf.iv c0_i32_56 c1_i32_58 k1_t2
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off11 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v409 : Index := Scalar.indexCast arg44
  let c16_279 : Index := 16#32
  ![v409.toNat, 16]
def k1_off12 (k1_t2 : Fin k1_t2_loop.trips) (c0_i32_281 : BitVec 32) : Fin 2 → Nat :=
  let c0_i32_56 : BitVec 32 := 0#32
  let c1_i32_58 : BitVec 32 := 1#32
  let arg44 : BitVec 32 := Scf.iv c0_i32_56 c1_i32_58 k1_t2
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off13 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v476 : Index := Scalar.indexCast arg44
  let c32_303 : Index := 32#32
  ![v476.toNat, 32]
def k1_off14 (k1_t2 : Fin k1_t2_loop.trips) (c0_i32_305 : BitVec 32) : Fin 2 → Nat :=
  let c0_i32_56 : BitVec 32 := 0#32
  let c1_i32_58 : BitVec 32 := 1#32
  let arg44 : BitVec 32 := Scf.iv c0_i32_56 c1_i32_58 k1_t2
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off15 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v543 : Index := Scalar.indexCast arg44
  let c48_327 : Index := 48#32
  ![v543.toNat, 48]
def k1_off16 (k1_t2 : Fin k1_t2_loop.trips) (c0_i32_329 : BitVec 32) : Fin 2 → Nat :=
  let c0_i32_56 : BitVec 32 := 0#32
  let c1_i32_58 : BitVec 32 := 1#32
  let arg44 : BitVec 32 := Scf.iv c0_i32_56 c1_i32_58 k1_t2
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off17 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v610 : Index := Scalar.indexCast arg44
  let c64_351 : Index := 64#32
  ![v610.toNat, 64]
def k1_off18 (k1_t2 : Fin k1_t2_loop.trips) (c0_i32_353 : BitVec 32) : Fin 2 → Nat :=
  let c0_i32_56 : BitVec 32 := 0#32
  let c1_i32_58 : BitVec 32 := 1#32
  let arg44 : BitVec 32 := Scf.iv c0_i32_56 c1_i32_58 k1_t2
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off19 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v677 : Index := Scalar.indexCast arg44
  let c80_375 : Index := 80#32
  ![v677.toNat, 80]
def k1_off20 (k1_t2 : Fin k1_t2_loop.trips) (c0_i32_377 : BitVec 32) : Fin 2 → Nat :=
  let c0_i32_56 : BitVec 32 := 0#32
  let c1_i32_58 : BitVec 32 := 1#32
  let arg44 : BitVec 32 := Scf.iv c0_i32_56 c1_i32_58 k1_t2
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off21 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v744 : Index := Scalar.indexCast arg44
  let c96_399 : Index := 96#32
  ![v744.toNat, 96]
def k1_off22 (k1_t2 : Fin k1_t2_loop.trips) : Fin 2 → Nat :=
  let c0_i32_56 : BitVec 32 := 0#32
  let c1_i32_58 : BitVec 32 := 1#32
  let arg44 : BitVec 32 := Scf.iv c0_i32_56 c1_i32_58 k1_t2
  let v771 : Index := Scalar.indexCast arg44
  let c112_400 : Index := 112#32
  ![v771.toNat, 112]
def k1_off23 (i : grid1.Coords) (k1_t1 : Fin k1_t1_loop.trips) (c0_i32_45 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let v52 : BitVec 32 := Scalar.addi v51 c0_i32_45
  let c8_i32_60 : BitVec 32 := 8#32
  let v65 : BitVec 32 := Scalar.muli v52 c8_i32_60
  let v66 : BitVec 32 := Scalar.addi v2 v65
  let c0_i32_61 : BitVec 32 := 0#32
  ![v66.toNat, 0]
def k1_cond2 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c0_i32_45 : BitVec 32 := 0#32
  let v52 : BitVec 32 := Scalar.addi v51 c0_i32_45
  let c8_i32_63 : BitVec 32 := 8#32
  let v69 : BitVec 32 := Scalar.addi v52 c8_i32_63
  let c64_i32_64 : BitVec 32 := 64#32
  let v70 : BitVec 1 := Scalar.cmpi .slt v69 c64_i32_64
  let v71 : BitVec 32 := Scalar.extui v70
  let c0_i32_65 : BitVec 32 := 0#32
  let v72 : BitVec 1 := Scalar.cmpi .ne v71 c0_i32_65
  v72

def k1_off24 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c0_i32_45 : BitVec 32 := 0#32
  let v52 : BitVec 32 := Scalar.addi v51 c0_i32_45
  let c8_i32_208 : BitVec 32 := 8#32
  let v220 : BitVec 32 := Scalar.addi v52 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off25 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c0_i32_45 : BitVec 32 := 0#32
  let v52 : BitVec 32 := Scalar.addi v51 c0_i32_45
  let c8_i32_208 : BitVec 32 := 8#32
  let v220 : BitVec 32 := Scalar.addi v52 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_cond3 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c1_i32_66 : BitVec 32 := 1#32
  let v73 : BitVec 32 := Scalar.addi v51 c1_i32_66
  let c2_i32_74 : BitVec 32 := 2#32
  let v82 : BitVec 1 := Scalar.cmpi .sge v73 c2_i32_74
  let v83 : BitVec 32 := Scalar.extui v82
  let c0_i32_75 : BitVec 32 := 0#32
  let v84 : BitVec 1 := Scalar.cmpi .ne v83 c0_i32_75
  v84

def k1_off26 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c1_i32_66 : BitVec 32 := 1#32
  let v73 : BitVec 32 := Scalar.addi v51 c1_i32_66
  let c8_i32_208 : BitVec 32 := 8#32
  let v220 : BitVec 32 := Scalar.muli v73 c8_i32_208
  let v221 : BitVec 32 := Scalar.addi v2 v220
  let c0_i32_209 : BitVec 32 := 0#32
  ![v221.toNat, 0]
@[reducible] def k1_t3_loop : Scf.Loop 32 :=
  let c0_i32_77 : BitVec 32 := 0#32
  let c8_i32_78 : BitVec 32 := 8#32
  let v85 : BitVec 32 := Scalar.addi c0_i32_77 c8_i32_78
  let c1_i32_79 : BitVec 32 := 1#32
  ⟨c0_i32_77, v85, c1_i32_79⟩
def k1_off27 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v220 : Index := Scalar.indexCast arg44
  let c0 : Index := 0#32
  ![v220.toNat, 0]
def k1_off28 (k1_t3 : Fin k1_t3_loop.trips) (c0_i32_209 : BitVec 32) : Fin 2 → Nat :=
  let c0_i32_77 : BitVec 32 := 0#32
  let c1_i32_79 : BitVec 32 := 1#32
  let arg44 : BitVec 32 := Scf.iv c0_i32_77 c1_i32_79 k1_t3
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off29 (k1_t3 : Fin k1_t3_loop.trips) (c0_i32_233 : BitVec 32) : Fin 2 → Nat :=
  let c0_i32_77 : BitVec 32 := 0#32
  let c1_i32_79 : BitVec 32 := 1#32
  let arg44 : BitVec 32 := Scf.iv c0_i32_77 c1_i32_79 k1_t3
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off30 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v342 : Index := Scalar.indexCast arg44
  let c0_255 : Index := 0#32
  ![v342.toNat, 0]
def k1_off31 (k1_t3 : Fin k1_t3_loop.trips) (c0_i32_257 : BitVec 32) : Fin 2 → Nat :=
  let c0_i32_77 : BitVec 32 := 0#32
  let c1_i32_79 : BitVec 32 := 1#32
  let arg44 : BitVec 32 := Scf.iv c0_i32_77 c1_i32_79 k1_t3
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off32 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v409 : Index := Scalar.indexCast arg44
  let c16_279 : Index := 16#32
  ![v409.toNat, 16]
def k1_off33 (k1_t3 : Fin k1_t3_loop.trips) (c0_i32_281 : BitVec 32) : Fin 2 → Nat :=
  let c0_i32_77 : BitVec 32 := 0#32
  let c1_i32_79 : BitVec 32 := 1#32
  let arg44 : BitVec 32 := Scf.iv c0_i32_77 c1_i32_79 k1_t3
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off34 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v476 : Index := Scalar.indexCast arg44
  let c32_303 : Index := 32#32
  ![v476.toNat, 32]
def k1_off35 (k1_t3 : Fin k1_t3_loop.trips) (c0_i32_305 : BitVec 32) : Fin 2 → Nat :=
  let c0_i32_77 : BitVec 32 := 0#32
  let c1_i32_79 : BitVec 32 := 1#32
  let arg44 : BitVec 32 := Scf.iv c0_i32_77 c1_i32_79 k1_t3
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off36 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v543 : Index := Scalar.indexCast arg44
  let c48_327 : Index := 48#32
  ![v543.toNat, 48]
def k1_off37 (k1_t3 : Fin k1_t3_loop.trips) (c0_i32_329 : BitVec 32) : Fin 2 → Nat :=
  let c0_i32_77 : BitVec 32 := 0#32
  let c1_i32_79 : BitVec 32 := 1#32
  let arg44 : BitVec 32 := Scf.iv c0_i32_77 c1_i32_79 k1_t3
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off38 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v610 : Index := Scalar.indexCast arg44
  let c64_351 : Index := 64#32
  ![v610.toNat, 64]
def k1_off39 (k1_t3 : Fin k1_t3_loop.trips) (c0_i32_353 : BitVec 32) : Fin 2 → Nat :=
  let c0_i32_77 : BitVec 32 := 0#32
  let c1_i32_79 : BitVec 32 := 1#32
  let arg44 : BitVec 32 := Scf.iv c0_i32_77 c1_i32_79 k1_t3
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off40 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v677 : Index := Scalar.indexCast arg44
  let c80_375 : Index := 80#32
  ![v677.toNat, 80]
def k1_off41 (k1_t3 : Fin k1_t3_loop.trips) (c0_i32_377 : BitVec 32) : Fin 2 → Nat :=
  let c0_i32_77 : BitVec 32 := 0#32
  let c1_i32_79 : BitVec 32 := 1#32
  let arg44 : BitVec 32 := Scf.iv c0_i32_77 c1_i32_79 k1_t3
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off42 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v744 : Index := Scalar.indexCast arg44
  let c96_399 : Index := 96#32
  ![v744.toNat, 96]
def k1_off43 (k1_t3 : Fin k1_t3_loop.trips) : Fin 2 → Nat :=
  let c0_i32_77 : BitVec 32 := 0#32
  let c1_i32_79 : BitVec 32 := 1#32
  let arg44 : BitVec 32 := Scf.iv c0_i32_77 c1_i32_79 k1_t3
  let v771 : Index := Scalar.indexCast arg44
  let c112_400 : Index := 112#32
  ![v771.toNat, 112]
def k1_cond4 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c1_i32_66 : BitVec 32 := 1#32
  let v73 : BitVec 32 := Scalar.addi v51 c1_i32_66
  let c8_i32_84 : BitVec 32 := 8#32
  let v90 : BitVec 32 := Scalar.addi v73 c8_i32_84
  let c64_i32_85 : BitVec 32 := 64#32
  let v91 : BitVec 1 := Scalar.cmpi .slt v90 c64_i32_85
  let v92 : BitVec 32 := Scalar.extui v91
  let c0_i32_86 : BitVec 32 := 0#32
  let v93 : BitVec 1 := Scalar.cmpi .ne v92 c0_i32_86
  v93

def k1_off44 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c1_i32_66 : BitVec 32 := 1#32
  let v73 : BitVec 32 := Scalar.addi v51 c1_i32_66
  let c8_i32_208 : BitVec 32 := 8#32
  let v220 : BitVec 32 := Scalar.addi v73 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off45 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c1_i32_66 : BitVec 32 := 1#32
  let v73 : BitVec 32 := Scalar.addi v51 c1_i32_66
  let c8_i32_208 : BitVec 32 := 8#32
  let v220 : BitVec 32 := Scalar.addi v73 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_cond5 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c2_i32_87 : BitVec 32 := 2#32
  let v94 : BitVec 32 := Scalar.addi v51 c2_i32_87
  let c2_i32_95 : BitVec 32 := 2#32
  let v103 : BitVec 1 := Scalar.cmpi .sge v94 c2_i32_95
  let v104 : BitVec 32 := Scalar.extui v103
  let c0_i32_96 : BitVec 32 := 0#32
  let v105 : BitVec 1 := Scalar.cmpi .ne v104 c0_i32_96
  v105

def k1_off46 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c2_i32_87 : BitVec 32 := 2#32
  let v94 : BitVec 32 := Scalar.addi v51 c2_i32_87
  let c8_i32_208 : BitVec 32 := 8#32
  let v220 : BitVec 32 := Scalar.muli v94 c8_i32_208
  let v221 : BitVec 32 := Scalar.addi v2 v220
  let c0_i32_209 : BitVec 32 := 0#32
  ![v221.toNat, 0]
@[reducible] def k1_t4_loop : Scf.Loop 32 :=
  let c0_i32_98 : BitVec 32 := 0#32
  let c8_i32_99 : BitVec 32 := 8#32
  let v106 : BitVec 32 := Scalar.addi c0_i32_98 c8_i32_99
  let c1_i32_100 : BitVec 32 := 1#32
  ⟨c0_i32_98, v106, c1_i32_100⟩
def k1_off47 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v220 : Index := Scalar.indexCast arg44
  let c0 : Index := 0#32
  ![v220.toNat, 0]
def k1_off48 (k1_t4 : Fin k1_t4_loop.trips) (c0_i32_209 : BitVec 32) : Fin 2 → Nat :=
  let c0_i32_98 : BitVec 32 := 0#32
  let c1_i32_100 : BitVec 32 := 1#32
  let arg44 : BitVec 32 := Scf.iv c0_i32_98 c1_i32_100 k1_t4
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off49 (k1_t4 : Fin k1_t4_loop.trips) (c0_i32_233 : BitVec 32) : Fin 2 → Nat :=
  let c0_i32_98 : BitVec 32 := 0#32
  let c1_i32_100 : BitVec 32 := 1#32
  let arg44 : BitVec 32 := Scf.iv c0_i32_98 c1_i32_100 k1_t4
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off50 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v342 : Index := Scalar.indexCast arg44
  let c0_255 : Index := 0#32
  ![v342.toNat, 0]
def k1_off51 (k1_t4 : Fin k1_t4_loop.trips) (c0_i32_257 : BitVec 32) : Fin 2 → Nat :=
  let c0_i32_98 : BitVec 32 := 0#32
  let c1_i32_100 : BitVec 32 := 1#32
  let arg44 : BitVec 32 := Scf.iv c0_i32_98 c1_i32_100 k1_t4
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off52 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v409 : Index := Scalar.indexCast arg44
  let c16_279 : Index := 16#32
  ![v409.toNat, 16]
def k1_off53 (k1_t4 : Fin k1_t4_loop.trips) (c0_i32_281 : BitVec 32) : Fin 2 → Nat :=
  let c0_i32_98 : BitVec 32 := 0#32
  let c1_i32_100 : BitVec 32 := 1#32
  let arg44 : BitVec 32 := Scf.iv c0_i32_98 c1_i32_100 k1_t4
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off54 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v476 : Index := Scalar.indexCast arg44
  let c32_303 : Index := 32#32
  ![v476.toNat, 32]
def k1_off55 (k1_t4 : Fin k1_t4_loop.trips) (c0_i32_305 : BitVec 32) : Fin 2 → Nat :=
  let c0_i32_98 : BitVec 32 := 0#32
  let c1_i32_100 : BitVec 32 := 1#32
  let arg44 : BitVec 32 := Scf.iv c0_i32_98 c1_i32_100 k1_t4
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off56 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v543 : Index := Scalar.indexCast arg44
  let c48_327 : Index := 48#32
  ![v543.toNat, 48]
def k1_off57 (k1_t4 : Fin k1_t4_loop.trips) (c0_i32_329 : BitVec 32) : Fin 2 → Nat :=
  let c0_i32_98 : BitVec 32 := 0#32
  let c1_i32_100 : BitVec 32 := 1#32
  let arg44 : BitVec 32 := Scf.iv c0_i32_98 c1_i32_100 k1_t4
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off58 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v610 : Index := Scalar.indexCast arg44
  let c64_351 : Index := 64#32
  ![v610.toNat, 64]
def k1_off59 (k1_t4 : Fin k1_t4_loop.trips) (c0_i32_353 : BitVec 32) : Fin 2 → Nat :=
  let c0_i32_98 : BitVec 32 := 0#32
  let c1_i32_100 : BitVec 32 := 1#32
  let arg44 : BitVec 32 := Scf.iv c0_i32_98 c1_i32_100 k1_t4
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off60 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v677 : Index := Scalar.indexCast arg44
  let c80_375 : Index := 80#32
  ![v677.toNat, 80]
def k1_off61 (k1_t4 : Fin k1_t4_loop.trips) (c0_i32_377 : BitVec 32) : Fin 2 → Nat :=
  let c0_i32_98 : BitVec 32 := 0#32
  let c1_i32_100 : BitVec 32 := 1#32
  let arg44 : BitVec 32 := Scf.iv c0_i32_98 c1_i32_100 k1_t4
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off62 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v744 : Index := Scalar.indexCast arg44
  let c96_399 : Index := 96#32
  ![v744.toNat, 96]
def k1_off63 (k1_t4 : Fin k1_t4_loop.trips) : Fin 2 → Nat :=
  let c0_i32_98 : BitVec 32 := 0#32
  let c1_i32_100 : BitVec 32 := 1#32
  let arg44 : BitVec 32 := Scf.iv c0_i32_98 c1_i32_100 k1_t4
  let v771 : Index := Scalar.indexCast arg44
  let c112_400 : Index := 112#32
  ![v771.toNat, 112]
def k1_cond6 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c2_i32_87 : BitVec 32 := 2#32
  let v94 : BitVec 32 := Scalar.addi v51 c2_i32_87
  let c8_i32_105 : BitVec 32 := 8#32
  let v111 : BitVec 32 := Scalar.addi v94 c8_i32_105
  let c64_i32_106 : BitVec 32 := 64#32
  let v112 : BitVec 1 := Scalar.cmpi .slt v111 c64_i32_106
  let v113 : BitVec 32 := Scalar.extui v112
  let c0_i32_107 : BitVec 32 := 0#32
  let v114 : BitVec 1 := Scalar.cmpi .ne v113 c0_i32_107
  v114

def k1_off64 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c2_i32_87 : BitVec 32 := 2#32
  let v94 : BitVec 32 := Scalar.addi v51 c2_i32_87
  let c8_i32_208 : BitVec 32 := 8#32
  let v220 : BitVec 32 := Scalar.addi v94 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off65 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c2_i32_87 : BitVec 32 := 2#32
  let v94 : BitVec 32 := Scalar.addi v51 c2_i32_87
  let c8_i32_208 : BitVec 32 := 8#32
  let v220 : BitVec 32 := Scalar.addi v94 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_cond7 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c3_i32 : BitVec 32 := 3#32
  let v115 : BitVec 32 := Scalar.addi v51 c3_i32
  let c2_i32_115 : BitVec 32 := 2#32
  let v124 : BitVec 1 := Scalar.cmpi .sge v115 c2_i32_115
  let v125 : BitVec 32 := Scalar.extui v124
  let c0_i32_116 : BitVec 32 := 0#32
  let v126 : BitVec 1 := Scalar.cmpi .ne v125 c0_i32_116
  v126

def k1_off66 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c3_i32 : BitVec 32 := 3#32
  let v115 : BitVec 32 := Scalar.addi v51 c3_i32
  let c8_i32_208 : BitVec 32 := 8#32
  let v220 : BitVec 32 := Scalar.muli v115 c8_i32_208
  let v221 : BitVec 32 := Scalar.addi v2 v220
  let c0_i32_209 : BitVec 32 := 0#32
  ![v221.toNat, 0]
@[reducible] def k1_t5_loop : Scf.Loop 32 :=
  let c0_i32_118 : BitVec 32 := 0#32
  let c8_i32_119 : BitVec 32 := 8#32
  let v127 : BitVec 32 := Scalar.addi c0_i32_118 c8_i32_119
  let c1_i32_120 : BitVec 32 := 1#32
  ⟨c0_i32_118, v127, c1_i32_120⟩
def k1_off67 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v220 : Index := Scalar.indexCast arg44
  let c0 : Index := 0#32
  ![v220.toNat, 0]
def k1_off68 (k1_t5 : Fin k1_t5_loop.trips) (c0_i32_209 : BitVec 32) : Fin 2 → Nat :=
  let c0_i32_118 : BitVec 32 := 0#32
  let c1_i32_120 : BitVec 32 := 1#32
  let arg44 : BitVec 32 := Scf.iv c0_i32_118 c1_i32_120 k1_t5
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off69 (k1_t5 : Fin k1_t5_loop.trips) (c0_i32_233 : BitVec 32) : Fin 2 → Nat :=
  let c0_i32_118 : BitVec 32 := 0#32
  let c1_i32_120 : BitVec 32 := 1#32
  let arg44 : BitVec 32 := Scf.iv c0_i32_118 c1_i32_120 k1_t5
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off70 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v342 : Index := Scalar.indexCast arg44
  let c0_255 : Index := 0#32
  ![v342.toNat, 0]
def k1_off71 (k1_t5 : Fin k1_t5_loop.trips) (c0_i32_257 : BitVec 32) : Fin 2 → Nat :=
  let c0_i32_118 : BitVec 32 := 0#32
  let c1_i32_120 : BitVec 32 := 1#32
  let arg44 : BitVec 32 := Scf.iv c0_i32_118 c1_i32_120 k1_t5
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off72 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v409 : Index := Scalar.indexCast arg44
  let c16_279 : Index := 16#32
  ![v409.toNat, 16]
def k1_off73 (k1_t5 : Fin k1_t5_loop.trips) (c0_i32_281 : BitVec 32) : Fin 2 → Nat :=
  let c0_i32_118 : BitVec 32 := 0#32
  let c1_i32_120 : BitVec 32 := 1#32
  let arg44 : BitVec 32 := Scf.iv c0_i32_118 c1_i32_120 k1_t5
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off74 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v476 : Index := Scalar.indexCast arg44
  let c32_303 : Index := 32#32
  ![v476.toNat, 32]
def k1_off75 (k1_t5 : Fin k1_t5_loop.trips) (c0_i32_305 : BitVec 32) : Fin 2 → Nat :=
  let c0_i32_118 : BitVec 32 := 0#32
  let c1_i32_120 : BitVec 32 := 1#32
  let arg44 : BitVec 32 := Scf.iv c0_i32_118 c1_i32_120 k1_t5
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off76 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v543 : Index := Scalar.indexCast arg44
  let c48_327 : Index := 48#32
  ![v543.toNat, 48]
def k1_off77 (k1_t5 : Fin k1_t5_loop.trips) (c0_i32_329 : BitVec 32) : Fin 2 → Nat :=
  let c0_i32_118 : BitVec 32 := 0#32
  let c1_i32_120 : BitVec 32 := 1#32
  let arg44 : BitVec 32 := Scf.iv c0_i32_118 c1_i32_120 k1_t5
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off78 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v610 : Index := Scalar.indexCast arg44
  let c64_351 : Index := 64#32
  ![v610.toNat, 64]
def k1_off79 (k1_t5 : Fin k1_t5_loop.trips) (c0_i32_353 : BitVec 32) : Fin 2 → Nat :=
  let c0_i32_118 : BitVec 32 := 0#32
  let c1_i32_120 : BitVec 32 := 1#32
  let arg44 : BitVec 32 := Scf.iv c0_i32_118 c1_i32_120 k1_t5
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off80 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v677 : Index := Scalar.indexCast arg44
  let c80_375 : Index := 80#32
  ![v677.toNat, 80]
def k1_off81 (k1_t5 : Fin k1_t5_loop.trips) (c0_i32_377 : BitVec 32) : Fin 2 → Nat :=
  let c0_i32_118 : BitVec 32 := 0#32
  let c1_i32_120 : BitVec 32 := 1#32
  let arg44 : BitVec 32 := Scf.iv c0_i32_118 c1_i32_120 k1_t5
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off82 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v744 : Index := Scalar.indexCast arg44
  let c96_399 : Index := 96#32
  ![v744.toNat, 96]
def k1_off83 (k1_t5 : Fin k1_t5_loop.trips) : Fin 2 → Nat :=
  let c0_i32_118 : BitVec 32 := 0#32
  let c1_i32_120 : BitVec 32 := 1#32
  let arg44 : BitVec 32 := Scf.iv c0_i32_118 c1_i32_120 k1_t5
  let v771 : Index := Scalar.indexCast arg44
  let c112_400 : Index := 112#32
  ![v771.toNat, 112]
def k1_cond8 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c3_i32 : BitVec 32 := 3#32
  let v115 : BitVec 32 := Scalar.addi v51 c3_i32
  let c8_i32_125 : BitVec 32 := 8#32
  let v132 : BitVec 32 := Scalar.addi v115 c8_i32_125
  let c64_i32_126 : BitVec 32 := 64#32
  let v133 : BitVec 1 := Scalar.cmpi .slt v132 c64_i32_126
  let v134 : BitVec 32 := Scalar.extui v133
  let c0_i32_127 : BitVec 32 := 0#32
  let v135 : BitVec 1 := Scalar.cmpi .ne v134 c0_i32_127
  v135

def k1_off84 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c3_i32 : BitVec 32 := 3#32
  let v115 : BitVec 32 := Scalar.addi v51 c3_i32
  let c8_i32_208 : BitVec 32 := 8#32
  let v220 : BitVec 32 := Scalar.addi v115 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off85 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c3_i32 : BitVec 32 := 3#32
  let v115 : BitVec 32 := Scalar.addi v51 c3_i32
  let c8_i32_208 : BitVec 32 := 8#32
  let v220 : BitVec 32 := Scalar.addi v115 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_cond9 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c4_i32 : BitVec 32 := 4#32
  let v136 : BitVec 32 := Scalar.addi v51 c4_i32
  let c2_i32_135 : BitVec 32 := 2#32
  let v145 : BitVec 1 := Scalar.cmpi .sge v136 c2_i32_135
  let v146 : BitVec 32 := Scalar.extui v145
  let c0_i32_136 : BitVec 32 := 0#32
  let v147 : BitVec 1 := Scalar.cmpi .ne v146 c0_i32_136
  v147

def k1_off86 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c4_i32 : BitVec 32 := 4#32
  let v136 : BitVec 32 := Scalar.addi v51 c4_i32
  let c8_i32_208 : BitVec 32 := 8#32
  let v220 : BitVec 32 := Scalar.muli v136 c8_i32_208
  let v221 : BitVec 32 := Scalar.addi v2 v220
  let c0_i32_209 : BitVec 32 := 0#32
  ![v221.toNat, 0]
@[reducible] def k1_t6_loop : Scf.Loop 32 :=
  let c0_i32_138 : BitVec 32 := 0#32
  let c8_i32_139 : BitVec 32 := 8#32
  let v148 : BitVec 32 := Scalar.addi c0_i32_138 c8_i32_139
  let c1_i32_140 : BitVec 32 := 1#32
  ⟨c0_i32_138, v148, c1_i32_140⟩
def k1_off87 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v220 : Index := Scalar.indexCast arg44
  let c0 : Index := 0#32
  ![v220.toNat, 0]
def k1_off88 (k1_t6 : Fin k1_t6_loop.trips) (c0_i32_209 : BitVec 32) : Fin 2 → Nat :=
  let c0_i32_138 : BitVec 32 := 0#32
  let c1_i32_140 : BitVec 32 := 1#32
  let arg44 : BitVec 32 := Scf.iv c0_i32_138 c1_i32_140 k1_t6
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off89 (k1_t6 : Fin k1_t6_loop.trips) (c0_i32_233 : BitVec 32) : Fin 2 → Nat :=
  let c0_i32_138 : BitVec 32 := 0#32
  let c1_i32_140 : BitVec 32 := 1#32
  let arg44 : BitVec 32 := Scf.iv c0_i32_138 c1_i32_140 k1_t6
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off90 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v342 : Index := Scalar.indexCast arg44
  let c0_255 : Index := 0#32
  ![v342.toNat, 0]
def k1_off91 (k1_t6 : Fin k1_t6_loop.trips) (c0_i32_257 : BitVec 32) : Fin 2 → Nat :=
  let c0_i32_138 : BitVec 32 := 0#32
  let c1_i32_140 : BitVec 32 := 1#32
  let arg44 : BitVec 32 := Scf.iv c0_i32_138 c1_i32_140 k1_t6
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off92 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v409 : Index := Scalar.indexCast arg44
  let c16_279 : Index := 16#32
  ![v409.toNat, 16]
def k1_off93 (k1_t6 : Fin k1_t6_loop.trips) (c0_i32_281 : BitVec 32) : Fin 2 → Nat :=
  let c0_i32_138 : BitVec 32 := 0#32
  let c1_i32_140 : BitVec 32 := 1#32
  let arg44 : BitVec 32 := Scf.iv c0_i32_138 c1_i32_140 k1_t6
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off94 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v476 : Index := Scalar.indexCast arg44
  let c32_303 : Index := 32#32
  ![v476.toNat, 32]
def k1_off95 (k1_t6 : Fin k1_t6_loop.trips) (c0_i32_305 : BitVec 32) : Fin 2 → Nat :=
  let c0_i32_138 : BitVec 32 := 0#32
  let c1_i32_140 : BitVec 32 := 1#32
  let arg44 : BitVec 32 := Scf.iv c0_i32_138 c1_i32_140 k1_t6
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off96 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v543 : Index := Scalar.indexCast arg44
  let c48_327 : Index := 48#32
  ![v543.toNat, 48]
def k1_off97 (k1_t6 : Fin k1_t6_loop.trips) (c0_i32_329 : BitVec 32) : Fin 2 → Nat :=
  let c0_i32_138 : BitVec 32 := 0#32
  let c1_i32_140 : BitVec 32 := 1#32
  let arg44 : BitVec 32 := Scf.iv c0_i32_138 c1_i32_140 k1_t6
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off98 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v610 : Index := Scalar.indexCast arg44
  let c64_351 : Index := 64#32
  ![v610.toNat, 64]
def k1_off99 (k1_t6 : Fin k1_t6_loop.trips) (c0_i32_353 : BitVec 32) : Fin 2 → Nat :=
  let c0_i32_138 : BitVec 32 := 0#32
  let c1_i32_140 : BitVec 32 := 1#32
  let arg44 : BitVec 32 := Scf.iv c0_i32_138 c1_i32_140 k1_t6
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off100 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v677 : Index := Scalar.indexCast arg44
  let c80_375 : Index := 80#32
  ![v677.toNat, 80]
def k1_off101 (k1_t6 : Fin k1_t6_loop.trips) (c0_i32_377 : BitVec 32) : Fin 2 → Nat :=
  let c0_i32_138 : BitVec 32 := 0#32
  let c1_i32_140 : BitVec 32 := 1#32
  let arg44 : BitVec 32 := Scf.iv c0_i32_138 c1_i32_140 k1_t6
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off102 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v744 : Index := Scalar.indexCast arg44
  let c96_399 : Index := 96#32
  ![v744.toNat, 96]
def k1_off103 (k1_t6 : Fin k1_t6_loop.trips) : Fin 2 → Nat :=
  let c0_i32_138 : BitVec 32 := 0#32
  let c1_i32_140 : BitVec 32 := 1#32
  let arg44 : BitVec 32 := Scf.iv c0_i32_138 c1_i32_140 k1_t6
  let v771 : Index := Scalar.indexCast arg44
  let c112_400 : Index := 112#32
  ![v771.toNat, 112]
def k1_cond10 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c4_i32 : BitVec 32 := 4#32
  let v136 : BitVec 32 := Scalar.addi v51 c4_i32
  let c8_i32_145 : BitVec 32 := 8#32
  let v153 : BitVec 32 := Scalar.addi v136 c8_i32_145
  let c64_i32_146 : BitVec 32 := 64#32
  let v154 : BitVec 1 := Scalar.cmpi .slt v153 c64_i32_146
  let v155 : BitVec 32 := Scalar.extui v154
  let c0_i32_147 : BitVec 32 := 0#32
  let v156 : BitVec 1 := Scalar.cmpi .ne v155 c0_i32_147
  v156

def k1_off104 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c4_i32 : BitVec 32 := 4#32
  let v136 : BitVec 32 := Scalar.addi v51 c4_i32
  let c8_i32_208 : BitVec 32 := 8#32
  let v220 : BitVec 32 := Scalar.addi v136 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off105 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c4_i32 : BitVec 32 := 4#32
  let v136 : BitVec 32 := Scalar.addi v51 c4_i32
  let c8_i32_208 : BitVec 32 := 8#32
  let v220 : BitVec 32 := Scalar.addi v136 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_cond11 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c5_i32 : BitVec 32 := 5#32
  let v157 : BitVec 32 := Scalar.addi v51 c5_i32
  let c2_i32_155 : BitVec 32 := 2#32
  let v166 : BitVec 1 := Scalar.cmpi .sge v157 c2_i32_155
  let v167 : BitVec 32 := Scalar.extui v166
  let c0_i32_156 : BitVec 32 := 0#32
  let v168 : BitVec 1 := Scalar.cmpi .ne v167 c0_i32_156
  v168

def k1_off106 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c5_i32 : BitVec 32 := 5#32
  let v157 : BitVec 32 := Scalar.addi v51 c5_i32
  let c8_i32_208 : BitVec 32 := 8#32
  let v220 : BitVec 32 := Scalar.muli v157 c8_i32_208
  let v221 : BitVec 32 := Scalar.addi v2 v220
  let c0_i32_209 : BitVec 32 := 0#32
  ![v221.toNat, 0]
@[reducible] def k1_t7_loop : Scf.Loop 32 :=
  let c0_i32_158 : BitVec 32 := 0#32
  let c8_i32_159 : BitVec 32 := 8#32
  let v169 : BitVec 32 := Scalar.addi c0_i32_158 c8_i32_159
  let c1_i32_160 : BitVec 32 := 1#32
  ⟨c0_i32_158, v169, c1_i32_160⟩
def k1_off107 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v220 : Index := Scalar.indexCast arg44
  let c0 : Index := 0#32
  ![v220.toNat, 0]
def k1_off108 (k1_t7 : Fin k1_t7_loop.trips) (c0_i32_209 : BitVec 32) : Fin 2 → Nat :=
  let c0_i32_158 : BitVec 32 := 0#32
  let c1_i32_160 : BitVec 32 := 1#32
  let arg44 : BitVec 32 := Scf.iv c0_i32_158 c1_i32_160 k1_t7
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off109 (k1_t7 : Fin k1_t7_loop.trips) (c0_i32_233 : BitVec 32) : Fin 2 → Nat :=
  let c0_i32_158 : BitVec 32 := 0#32
  let c1_i32_160 : BitVec 32 := 1#32
  let arg44 : BitVec 32 := Scf.iv c0_i32_158 c1_i32_160 k1_t7
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off110 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v342 : Index := Scalar.indexCast arg44
  let c0_255 : Index := 0#32
  ![v342.toNat, 0]
def k1_off111 (k1_t7 : Fin k1_t7_loop.trips) (c0_i32_257 : BitVec 32) : Fin 2 → Nat :=
  let c0_i32_158 : BitVec 32 := 0#32
  let c1_i32_160 : BitVec 32 := 1#32
  let arg44 : BitVec 32 := Scf.iv c0_i32_158 c1_i32_160 k1_t7
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off112 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v409 : Index := Scalar.indexCast arg44
  let c16_279 : Index := 16#32
  ![v409.toNat, 16]
def k1_off113 (k1_t7 : Fin k1_t7_loop.trips) (c0_i32_281 : BitVec 32) : Fin 2 → Nat :=
  let c0_i32_158 : BitVec 32 := 0#32
  let c1_i32_160 : BitVec 32 := 1#32
  let arg44 : BitVec 32 := Scf.iv c0_i32_158 c1_i32_160 k1_t7
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off114 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v476 : Index := Scalar.indexCast arg44
  let c32_303 : Index := 32#32
  ![v476.toNat, 32]
def k1_off115 (k1_t7 : Fin k1_t7_loop.trips) (c0_i32_305 : BitVec 32) : Fin 2 → Nat :=
  let c0_i32_158 : BitVec 32 := 0#32
  let c1_i32_160 : BitVec 32 := 1#32
  let arg44 : BitVec 32 := Scf.iv c0_i32_158 c1_i32_160 k1_t7
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off116 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v543 : Index := Scalar.indexCast arg44
  let c48_327 : Index := 48#32
  ![v543.toNat, 48]
def k1_off117 (k1_t7 : Fin k1_t7_loop.trips) (c0_i32_329 : BitVec 32) : Fin 2 → Nat :=
  let c0_i32_158 : BitVec 32 := 0#32
  let c1_i32_160 : BitVec 32 := 1#32
  let arg44 : BitVec 32 := Scf.iv c0_i32_158 c1_i32_160 k1_t7
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off118 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v610 : Index := Scalar.indexCast arg44
  let c64_351 : Index := 64#32
  ![v610.toNat, 64]
def k1_off119 (k1_t7 : Fin k1_t7_loop.trips) (c0_i32_353 : BitVec 32) : Fin 2 → Nat :=
  let c0_i32_158 : BitVec 32 := 0#32
  let c1_i32_160 : BitVec 32 := 1#32
  let arg44 : BitVec 32 := Scf.iv c0_i32_158 c1_i32_160 k1_t7
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off120 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v677 : Index := Scalar.indexCast arg44
  let c80_375 : Index := 80#32
  ![v677.toNat, 80]
def k1_off121 (k1_t7 : Fin k1_t7_loop.trips) (c0_i32_377 : BitVec 32) : Fin 2 → Nat :=
  let c0_i32_158 : BitVec 32 := 0#32
  let c1_i32_160 : BitVec 32 := 1#32
  let arg44 : BitVec 32 := Scf.iv c0_i32_158 c1_i32_160 k1_t7
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off122 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v744 : Index := Scalar.indexCast arg44
  let c96_399 : Index := 96#32
  ![v744.toNat, 96]
def k1_off123 (k1_t7 : Fin k1_t7_loop.trips) : Fin 2 → Nat :=
  let c0_i32_158 : BitVec 32 := 0#32
  let c1_i32_160 : BitVec 32 := 1#32
  let arg44 : BitVec 32 := Scf.iv c0_i32_158 c1_i32_160 k1_t7
  let v771 : Index := Scalar.indexCast arg44
  let c112_400 : Index := 112#32
  ![v771.toNat, 112]
def k1_cond12 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c5_i32 : BitVec 32 := 5#32
  let v157 : BitVec 32 := Scalar.addi v51 c5_i32
  let c8_i32_165 : BitVec 32 := 8#32
  let v174 : BitVec 32 := Scalar.addi v157 c8_i32_165
  let c64_i32_166 : BitVec 32 := 64#32
  let v175 : BitVec 1 := Scalar.cmpi .slt v174 c64_i32_166
  let v176 : BitVec 32 := Scalar.extui v175
  let c0_i32_167 : BitVec 32 := 0#32
  let v177 : BitVec 1 := Scalar.cmpi .ne v176 c0_i32_167
  v177

def k1_off124 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c5_i32 : BitVec 32 := 5#32
  let v157 : BitVec 32 := Scalar.addi v51 c5_i32
  let c8_i32_208 : BitVec 32 := 8#32
  let v220 : BitVec 32 := Scalar.addi v157 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off125 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c5_i32 : BitVec 32 := 5#32
  let v157 : BitVec 32 := Scalar.addi v51 c5_i32
  let c8_i32_208 : BitVec 32 := 8#32
  let v220 : BitVec 32 := Scalar.addi v157 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_cond13 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c6_i32 : BitVec 32 := 6#32
  let v178 : BitVec 32 := Scalar.addi v51 c6_i32
  let c2_i32_175 : BitVec 32 := 2#32
  let v187 : BitVec 1 := Scalar.cmpi .sge v178 c2_i32_175
  let v188 : BitVec 32 := Scalar.extui v187
  let c0_i32_176 : BitVec 32 := 0#32
  let v189 : BitVec 1 := Scalar.cmpi .ne v188 c0_i32_176
  v189

def k1_off126 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c6_i32 : BitVec 32 := 6#32
  let v178 : BitVec 32 := Scalar.addi v51 c6_i32
  let c8_i32_208 : BitVec 32 := 8#32
  let v220 : BitVec 32 := Scalar.muli v178 c8_i32_208
  let v221 : BitVec 32 := Scalar.addi v2 v220
  let c0_i32_209 : BitVec 32 := 0#32
  ![v221.toNat, 0]
@[reducible] def k1_t8_loop : Scf.Loop 32 :=
  let c0_i32_178 : BitVec 32 := 0#32
  let c8_i32_179 : BitVec 32 := 8#32
  let v190 : BitVec 32 := Scalar.addi c0_i32_178 c8_i32_179
  let c1_i32_180 : BitVec 32 := 1#32
  ⟨c0_i32_178, v190, c1_i32_180⟩
def k1_off127 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v220 : Index := Scalar.indexCast arg44
  let c0 : Index := 0#32
  ![v220.toNat, 0]
def k1_off128 (k1_t8 : Fin k1_t8_loop.trips) (c0_i32_209 : BitVec 32) : Fin 2 → Nat :=
  let c0_i32_178 : BitVec 32 := 0#32
  let c1_i32_180 : BitVec 32 := 1#32
  let arg44 : BitVec 32 := Scf.iv c0_i32_178 c1_i32_180 k1_t8
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off129 (k1_t8 : Fin k1_t8_loop.trips) (c0_i32_233 : BitVec 32) : Fin 2 → Nat :=
  let c0_i32_178 : BitVec 32 := 0#32
  let c1_i32_180 : BitVec 32 := 1#32
  let arg44 : BitVec 32 := Scf.iv c0_i32_178 c1_i32_180 k1_t8
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off130 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v342 : Index := Scalar.indexCast arg44
  let c0_255 : Index := 0#32
  ![v342.toNat, 0]
def k1_off131 (k1_t8 : Fin k1_t8_loop.trips) (c0_i32_257 : BitVec 32) : Fin 2 → Nat :=
  let c0_i32_178 : BitVec 32 := 0#32
  let c1_i32_180 : BitVec 32 := 1#32
  let arg44 : BitVec 32 := Scf.iv c0_i32_178 c1_i32_180 k1_t8
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off132 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v409 : Index := Scalar.indexCast arg44
  let c16_279 : Index := 16#32
  ![v409.toNat, 16]
def k1_off133 (k1_t8 : Fin k1_t8_loop.trips) (c0_i32_281 : BitVec 32) : Fin 2 → Nat :=
  let c0_i32_178 : BitVec 32 := 0#32
  let c1_i32_180 : BitVec 32 := 1#32
  let arg44 : BitVec 32 := Scf.iv c0_i32_178 c1_i32_180 k1_t8
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off134 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v476 : Index := Scalar.indexCast arg44
  let c32_303 : Index := 32#32
  ![v476.toNat, 32]
def k1_off135 (k1_t8 : Fin k1_t8_loop.trips) (c0_i32_305 : BitVec 32) : Fin 2 → Nat :=
  let c0_i32_178 : BitVec 32 := 0#32
  let c1_i32_180 : BitVec 32 := 1#32
  let arg44 : BitVec 32 := Scf.iv c0_i32_178 c1_i32_180 k1_t8
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off136 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v543 : Index := Scalar.indexCast arg44
  let c48_327 : Index := 48#32
  ![v543.toNat, 48]
def k1_off137 (k1_t8 : Fin k1_t8_loop.trips) (c0_i32_329 : BitVec 32) : Fin 2 → Nat :=
  let c0_i32_178 : BitVec 32 := 0#32
  let c1_i32_180 : BitVec 32 := 1#32
  let arg44 : BitVec 32 := Scf.iv c0_i32_178 c1_i32_180 k1_t8
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off138 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v610 : Index := Scalar.indexCast arg44
  let c64_351 : Index := 64#32
  ![v610.toNat, 64]
def k1_off139 (k1_t8 : Fin k1_t8_loop.trips) (c0_i32_353 : BitVec 32) : Fin 2 → Nat :=
  let c0_i32_178 : BitVec 32 := 0#32
  let c1_i32_180 : BitVec 32 := 1#32
  let arg44 : BitVec 32 := Scf.iv c0_i32_178 c1_i32_180 k1_t8
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off140 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v677 : Index := Scalar.indexCast arg44
  let c80_375 : Index := 80#32
  ![v677.toNat, 80]
def k1_off141 (k1_t8 : Fin k1_t8_loop.trips) (c0_i32_377 : BitVec 32) : Fin 2 → Nat :=
  let c0_i32_178 : BitVec 32 := 0#32
  let c1_i32_180 : BitVec 32 := 1#32
  let arg44 : BitVec 32 := Scf.iv c0_i32_178 c1_i32_180 k1_t8
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off142 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v744 : Index := Scalar.indexCast arg44
  let c96_399 : Index := 96#32
  ![v744.toNat, 96]
def k1_off143 (k1_t8 : Fin k1_t8_loop.trips) : Fin 2 → Nat :=
  let c0_i32_178 : BitVec 32 := 0#32
  let c1_i32_180 : BitVec 32 := 1#32
  let arg44 : BitVec 32 := Scf.iv c0_i32_178 c1_i32_180 k1_t8
  let v771 : Index := Scalar.indexCast arg44
  let c112_400 : Index := 112#32
  ![v771.toNat, 112]
def k1_cond14 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c6_i32 : BitVec 32 := 6#32
  let v178 : BitVec 32 := Scalar.addi v51 c6_i32
  let c8_i32_185 : BitVec 32 := 8#32
  let v195 : BitVec 32 := Scalar.addi v178 c8_i32_185
  let c64_i32_186 : BitVec 32 := 64#32
  let v196 : BitVec 1 := Scalar.cmpi .slt v195 c64_i32_186
  let v197 : BitVec 32 := Scalar.extui v196
  let c0_i32_187 : BitVec 32 := 0#32
  let v198 : BitVec 1 := Scalar.cmpi .ne v197 c0_i32_187
  v198

def k1_off144 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c6_i32 : BitVec 32 := 6#32
  let v178 : BitVec 32 := Scalar.addi v51 c6_i32
  let c8_i32_208 : BitVec 32 := 8#32
  let v220 : BitVec 32 := Scalar.addi v178 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off145 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c6_i32 : BitVec 32 := 6#32
  let v178 : BitVec 32 := Scalar.addi v51 c6_i32
  let c8_i32_208 : BitVec 32 := 8#32
  let v220 : BitVec 32 := Scalar.addi v178 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_cond15 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c7_i32 : BitVec 32 := 7#32
  let v199 : BitVec 32 := Scalar.addi v51 c7_i32
  let c2_i32_195 : BitVec 32 := 2#32
  let v208 : BitVec 1 := Scalar.cmpi .sge v199 c2_i32_195
  let v209 : BitVec 32 := Scalar.extui v208
  let c0_i32_196 : BitVec 32 := 0#32
  let v210 : BitVec 1 := Scalar.cmpi .ne v209 c0_i32_196
  v210

def k1_off146 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c7_i32 : BitVec 32 := 7#32
  let v199 : BitVec 32 := Scalar.addi v51 c7_i32
  let c8_i32_208 : BitVec 32 := 8#32
  let v220 : BitVec 32 := Scalar.muli v199 c8_i32_208
  let v221 : BitVec 32 := Scalar.addi v2 v220
  let c0_i32_209 : BitVec 32 := 0#32
  ![v221.toNat, 0]
@[reducible] def k1_t9_loop : Scf.Loop 32 :=
  let c0_i32_198 : BitVec 32 := 0#32
  let c8_i32_199 : BitVec 32 := 8#32
  let v211 : BitVec 32 := Scalar.addi c0_i32_198 c8_i32_199
  let c1_i32_200 : BitVec 32 := 1#32
  ⟨c0_i32_198, v211, c1_i32_200⟩
def k1_off147 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v220 : Index := Scalar.indexCast arg44
  let c0 : Index := 0#32
  ![v220.toNat, 0]
def k1_off148 (k1_t9 : Fin k1_t9_loop.trips) (c0_i32_209 : BitVec 32) : Fin 2 → Nat :=
  let c0_i32_198 : BitVec 32 := 0#32
  let c1_i32_200 : BitVec 32 := 1#32
  let arg44 : BitVec 32 := Scf.iv c0_i32_198 c1_i32_200 k1_t9
  let c8_i32_208 : BitVec 32 := 8#32
  let v239 : BitVec 32 := Scalar.muli arg44 c8_i32_208
  let v240 : BitVec 32 := Scalar.addi v239 c0_i32_209
  let v241 : Index := Scalar.indexCast v240
  let c0_210 : Index := 0#32
  ![v241.toNat, 0]
def k1_off149 (k1_t9 : Fin k1_t9_loop.trips) (c0_i32_233 : BitVec 32) : Fin 2 → Nat :=
  let c0_i32_198 : BitVec 32 := 0#32
  let c1_i32_200 : BitVec 32 := 1#32
  let arg44 : BitVec 32 := Scf.iv c0_i32_198 c1_i32_200 k1_t9
  let c8_i32_232 : BitVec 32 := 8#32
  let v279 : BitVec 32 := Scalar.muli arg44 c8_i32_232
  let v280 : BitVec 32 := Scalar.addi v279 c0_i32_233
  let v281 : Index := Scalar.indexCast v280
  let c16 : Index := 16#32
  ![v281.toNat, 16]
def k1_off150 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v342 : Index := Scalar.indexCast arg44
  let c0_255 : Index := 0#32
  ![v342.toNat, 0]
def k1_off151 (k1_t9 : Fin k1_t9_loop.trips) (c0_i32_257 : BitVec 32) : Fin 2 → Nat :=
  let c0_i32_198 : BitVec 32 := 0#32
  let c1_i32_200 : BitVec 32 := 1#32
  let arg44 : BitVec 32 := Scf.iv c0_i32_198 c1_i32_200 k1_t9
  let c8_i32_256 : BitVec 32 := 8#32
  let v346 : BitVec 32 := Scalar.muli arg44 c8_i32_256
  let v347 : BitVec 32 := Scalar.addi v346 c0_i32_257
  let v348 : Index := Scalar.indexCast v347
  let c32 : Index := 32#32
  ![v348.toNat, 32]
def k1_off152 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v409 : Index := Scalar.indexCast arg44
  let c16_279 : Index := 16#32
  ![v409.toNat, 16]
def k1_off153 (k1_t9 : Fin k1_t9_loop.trips) (c0_i32_281 : BitVec 32) : Fin 2 → Nat :=
  let c0_i32_198 : BitVec 32 := 0#32
  let c1_i32_200 : BitVec 32 := 1#32
  let arg44 : BitVec 32 := Scf.iv c0_i32_198 c1_i32_200 k1_t9
  let c8_i32_280 : BitVec 32 := 8#32
  let v413 : BitVec 32 := Scalar.muli arg44 c8_i32_280
  let v414 : BitVec 32 := Scalar.addi v413 c0_i32_281
  let v415 : Index := Scalar.indexCast v414
  let c48 : Index := 48#32
  ![v415.toNat, 48]
def k1_off154 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v476 : Index := Scalar.indexCast arg44
  let c32_303 : Index := 32#32
  ![v476.toNat, 32]
def k1_off155 (k1_t9 : Fin k1_t9_loop.trips) (c0_i32_305 : BitVec 32) : Fin 2 → Nat :=
  let c0_i32_198 : BitVec 32 := 0#32
  let c1_i32_200 : BitVec 32 := 1#32
  let arg44 : BitVec 32 := Scf.iv c0_i32_198 c1_i32_200 k1_t9
  let c8_i32_304 : BitVec 32 := 8#32
  let v480 : BitVec 32 := Scalar.muli arg44 c8_i32_304
  let v481 : BitVec 32 := Scalar.addi v480 c0_i32_305
  let v482 : Index := Scalar.indexCast v481
  let c64 : Index := 64#32
  ![v482.toNat, 64]
def k1_off156 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v543 : Index := Scalar.indexCast arg44
  let c48_327 : Index := 48#32
  ![v543.toNat, 48]
def k1_off157 (k1_t9 : Fin k1_t9_loop.trips) (c0_i32_329 : BitVec 32) : Fin 2 → Nat :=
  let c0_i32_198 : BitVec 32 := 0#32
  let c1_i32_200 : BitVec 32 := 1#32
  let arg44 : BitVec 32 := Scf.iv c0_i32_198 c1_i32_200 k1_t9
  let c8_i32_328 : BitVec 32 := 8#32
  let v547 : BitVec 32 := Scalar.muli arg44 c8_i32_328
  let v548 : BitVec 32 := Scalar.addi v547 c0_i32_329
  let v549 : Index := Scalar.indexCast v548
  let c80 : Index := 80#32
  ![v549.toNat, 80]
def k1_off158 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v610 : Index := Scalar.indexCast arg44
  let c64_351 : Index := 64#32
  ![v610.toNat, 64]
def k1_off159 (k1_t9 : Fin k1_t9_loop.trips) (c0_i32_353 : BitVec 32) : Fin 2 → Nat :=
  let c0_i32_198 : BitVec 32 := 0#32
  let c1_i32_200 : BitVec 32 := 1#32
  let arg44 : BitVec 32 := Scf.iv c0_i32_198 c1_i32_200 k1_t9
  let c8_i32_352 : BitVec 32 := 8#32
  let v614 : BitVec 32 := Scalar.muli arg44 c8_i32_352
  let v615 : BitVec 32 := Scalar.addi v614 c0_i32_353
  let v616 : Index := Scalar.indexCast v615
  let c96 : Index := 96#32
  ![v616.toNat, 96]
def k1_off160 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v677 : Index := Scalar.indexCast arg44
  let c80_375 : Index := 80#32
  ![v677.toNat, 80]
def k1_off161 (k1_t9 : Fin k1_t9_loop.trips) (c0_i32_377 : BitVec 32) : Fin 2 → Nat :=
  let c0_i32_198 : BitVec 32 := 0#32
  let c1_i32_200 : BitVec 32 := 1#32
  let arg44 : BitVec 32 := Scf.iv c0_i32_198 c1_i32_200 k1_t9
  let c8_i32_376 : BitVec 32 := 8#32
  let v681 : BitVec 32 := Scalar.muli arg44 c8_i32_376
  let v682 : BitVec 32 := Scalar.addi v681 c0_i32_377
  let v683 : Index := Scalar.indexCast v682
  let c112 : Index := 112#32
  ![v683.toNat, 112]
def k1_off162 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v744 : Index := Scalar.indexCast arg44
  let c96_399 : Index := 96#32
  ![v744.toNat, 96]
def k1_off163 (k1_t9 : Fin k1_t9_loop.trips) : Fin 2 → Nat :=
  let c0_i32_198 : BitVec 32 := 0#32
  let c1_i32_200 : BitVec 32 := 1#32
  let arg44 : BitVec 32 := Scf.iv c0_i32_198 c1_i32_200 k1_t9
  let v771 : Index := Scalar.indexCast arg44
  let c112_400 : Index := 112#32
  ![v771.toNat, 112]
def k1_cond16 (k1_t1 : Fin k1_t1_loop.trips) : BitVec 1 :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c7_i32 : BitVec 32 := 7#32
  let v199 : BitVec 32 := Scalar.addi v51 c7_i32
  let c8_i32_205 : BitVec 32 := 8#32
  let v216 : BitVec 32 := Scalar.addi v199 c8_i32_205
  let c64_i32_206 : BitVec 32 := 64#32
  let v217 : BitVec 1 := Scalar.cmpi .slt v216 c64_i32_206
  let v218 : BitVec 32 := Scalar.extui v217
  let c0_i32_207 : BitVec 32 := 0#32
  let v219 : BitVec 1 := Scalar.cmpi .ne v218 c0_i32_207
  v219

def k1_off164 (k1_t1 : Fin k1_t1_loop.trips) : Fin 1 → Nat :=
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c7_i32 : BitVec 32 := 7#32
  let v199 : BitVec 32 := Scalar.addi v51 c7_i32
  let c8_i32_208 : BitVec 32 := 8#32
  let v220 : BitVec 32 := Scalar.addi v199 c8_i32_208
  let c8_i32_209 : BitVec 32 := 8#32
  let v221 : BitVec 32 := Scalar.muli v220 c8_i32_209
  let c8_i32_210 : BitVec 32 := 8#32
  let v222 : BitVec 32 := Scalar.muli v221 c8_i32_210
  ![v222.toNat]
def k1_off165 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  let c1_i32 : BitVec 32 := 1#32
  let arg43 : BitVec 32 := Scf.iv c0_i32_35 c1_i32 k1_t1
  let c8_i32_44 : BitVec 32 := 8#32
  let v51 : BitVec 32 := Scalar.muli arg43 c8_i32_44
  let c7_i32 : BitVec 32 := 7#32
  let v199 : BitVec 32 := Scalar.addi v51 c7_i32
  let c8_i32_208 : BitVec 32 := 8#32
  let v220 : BitVec 32 := Scalar.addi v199 c8_i32_208
  let c8_i32_213 : BitVec 32 := 8#32
  let v225 : BitVec 32 := Scalar.muli v220 c8_i32_213
  let v226 : BitVec 32 := Scalar.addi v2 v225
  let c0_i32_214 : BitVec 32 := 0#32
  ![v226.toNat, 0]
def k1_off166 (i : grid1.Coords) (c0_i32_38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v45 : BitVec 32 := Scalar.addi v2 c0_i32_38
  let c0_i32_39 : BitVec 32 := 0#32
  ![v45.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S16384x512 : Shape := ⟨2, ![16384, 512]⟩
abbrev S100000x8x128 : Shape := ⟨3, ![100000, 8, 128]⟩
abbrev S512x8 : Shape := ⟨2, ![512, 8]⟩
abbrev S8 : Shape := ⟨1, ![8]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x8x128 : Shape := ⟨3, ![16384, 8, 128]⟩
abbrev S16384x8 : Shape := ⟨2, ![16384, 8]⟩
abbrev S1x8 : Shape := ⟨2, ![1, 8]⟩
abbrev S16384x128 : Shape := ⟨2, ![16384, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x512, .f32⟩
  | .hbm, ⟨2, _⟩ => ⟨S100000x8x128, .f32⟩
  | .hbm, ⟨3, _⟩ => ⟨S512x8, .f32⟩
  | .hbm, ⟨4, _⟩ => ⟨S8, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x8x128, .f32⟩
  | .hbm, ⟨24, _⟩ => ⟨S16384x8x128, .i1⟩
  | .hbm, ⟨25, _⟩ => ⟨S_, .f32⟩
  | .hbm, ⟨26, _⟩ => ⟨S16384x8x128, .f32⟩
  | .hbm, ⟨27, _⟩ => ⟨S16384x8x128, .f32⟩
  | .hbm, ⟨28, _⟩ => ⟨S16384x8, .f32⟩
  | .hbm, ⟨29, _⟩ => ⟨S1x8, .f32⟩
  | .hbm, ⟨30, _⟩ => ⟨S16384x8, .f32⟩
  | .hbm, ⟨31, _⟩ => ⟨S16384x8, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x8, .f32⟩
  | .hbm, ⟨45, _⟩ => ⟨S16384x8, .f32⟩
  | .hbm, ⟨46, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩

abbrev nD : Nat := 1
abbrev τ : Topo := Topo.v7x

variable {F : FTy → Type} [FloatOps F]
-- ==== Proof.Base.lean ====
/-
  The names every module of this proof shares: the program as the launch theorem sees it, the resource algebra, the
  buffers of the call's operands, and one vector subcore's scratch buffers by slot of the ring. Everything is over any
  float values `F`, so that the run is written once for both programs.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import Idealize.ShloMosaic.Lib.ValueIdxCore
public import Idealize.ShloMosaic.Lib.Pipeline.Value
public import Idealize.ShloMosaic.Lib.Pipeline.FrameBody
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

/-! ## A vector subcore -/

/-- The SparseCore and the subcore of grid point `i`. -/
abbrev cV (i : grid1.Coords) : Fin τ.nSC := (i 0).castLE hcore1
abbrev jV (i : grid1.Coords) : Fin τ.nSub := (i 1).castLE hsub1

end Cert.Proof.Sc

end
-- ==== Proof.Rows.lean ====
/-
  The row loop of one chunk: eight trips, each combining eight gathered rows of 128 lanes with their eight gates into one
  row of the out buffer. The program text has the loop eight times, once per slot of the ring, over other buffers; here it
  is run once, over any three buffers.
-/
module

public import proofs.«01_k».proof.Proof.Base

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- One trip of the row loop over the rows buffer `rm`, the gates buffer `gm` and the out buffer `om`. -/
def rowTrip (i : grid1.Coords) (rm : Memref sig .scVector .vmem S64x128 .f32) (hrm : rm.IsWhole) (gm : Memref sig .scVector .vmem S8x16 .f32) (hgm : gm.IsWhole)
    (om : Memref sig .scVector .vmem S8x128 .f32) (hom : om.IsWhole) :
    Fin k1_t2_loop.trips → Unit → Prog (TpuEff nD τ sig (Elt F) Λ₀ (.scVector ((i 0).castLE hcore1) ((i 1).castLE hsub1))) Unit :=
  k1_t2_body i
    (Memref.whole main_v10_scv) (Memref.isWhole_whole _)
    (Memref.whole main_v1_scv) (Memref.isWhole_whole _)
    (Memref.whole main_v11_scv) (Memref.isWhole_whole _)
    (Memref.whole main_v12_scv) (Memref.isWhole_whole _)
    (Memref.whole cc1_scratch0) (Memref.isWhole_whole _)
    rm hrm
    (Memref.whole cc1_scratch2) (Memref.isWhole_whole _)
    (Memref.whole cc1_scratch3) (Memref.isWhole_whole _)
    (Memref.whole cc1_scratch4) (Memref.isWhole_whole _)
    (Memref.whole cc1_scratch5) (Memref.isWhole_whole _)
    (Memref.whole cc1_scratch6) (Memref.isWhole_whole _)
    (Memref.whole cc1_scratch7) (Memref.isWhole_whole _)
    (Memref.whole cc1_scratch8) (Memref.isWhole_whole _)
    gm hgm
    (Memref.whole cc1_scratch10) (Memref.isWhole_whole _)
    (Memref.whole cc1_scratch11) (Memref.isWhole_whole _)
    (Memref.whole cc1_scratch12) (Memref.isWhole_whole _)
    (Memref.whole cc1_scratch13) (Memref.isWhole_whole _)
    (Memref.whole cc1_scratch14) (Memref.isWhole_whole _)
    (Memref.whole cc1_scratch15) (Memref.isWhole_whole _)
    (Memref.whole cc1_scratch16) (Memref.isWhole_whole _)
    om hom
    (Memref.whole cc1_scratch18) (Memref.isWhole_whole _)
    cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scratch34 cc1_scratch35 cc1_scratch36 cc1_scoped0 0#32 0#32 0#32 ⟨0, by decide⟩

variable (d : Fin nD) (i : grid1.Coords)

/-! ## The value of one row -/

/-- Eight numbers added as the kernel adds them: in pairs, then pairs of pairs. -/
def tree8 (p : Fin 8 → F .f32) : F .f32 :=
  FloatOps.addf (FloatOps.addf (FloatOps.addf (p 0) (p 1)) (FloatOps.addf (p 2) (p 3)))
    (FloatOps.addf (FloatOps.addf (p 4) (p 5)) (FloatOps.addf (p 6) (p 7)))

/-- Element `y` of the out block of a chunk whose rows buffer holds `A` and whose gates buffer holds `G`. -/
def rowVal (A : S64x128.Idx → F .f32) (G : S8x16.Idx → F .f32) (y : S8x128.Idx) : F .f32 :=
  tree8 fun n => FloatOps.mulf (A (ix2 ⟨8 * (y 0).val + n.val, by have h : (y 0).val < 8 := (y 0).isLt; omega⟩ (y 1)))
    (G (ix2 (y 0) ⟨n.val, by omega⟩))

/-- The gate of lane `n` of a row of gates, as the kernel takes it out. -/
def gateOf (g : Vec F S1x16 .f32) (n : Fin 8) : F .f32 :=
  extractAt ![0] (extractStridedSlice S1 ![n.val] (shapeCast S16 g shapeCasts_S1x16_S16) (by revert n; decide) : FVec F S1 .f32) inpos_S1_p0

/-- One group of sixteen lanes of a row, as the kernel computes it. -/
def groupVec (g : Vec F S1x16 .f32) (w : Fin 8 → Vec F S1x16 .f32) : FVec F S1x16 .f32 :=
  have p : Fin 8 → FVec F S16 .f32 := fun n => mulf (shapeCast S16 (w n) shapeCasts_S1x16_S16) (broadcast S16 (gateOf g n))
  shapeCast S1x16 (addf (addf (addf (p 0) (p 1)) (addf (p 2) (p 3))) (addf (addf (p 4) (p 5)) (addf (p 6) (p 7)))) shapeCasts_S16_S1x16

omit [FloatOps F] in
theorem gateOf_eq (g : Vec F S1x16 .f32) (n : Fin 8) : gateOf g n = g (ix2 0 ⟨n.val, by omega⟩) := by
  unfold gateOf extractAt extractStridedSlice
  exact shapeCast_apply _ _ _ _ (by revert n; decide)

theorem groupVec_eq (g : Vec F S1x16 .f32) (w : Fin 8 → Vec F S1x16 .f32) (x : S1x16.Idx) :
    groupVec g w x = tree8 fun n => FloatOps.mulf (w n x) (g (ix2 0 ⟨n.val, by omega⟩)) := by
  have hx : (S16.rowMajor (ix1 (x 1))).val = (S1x16.rowMajor x).val := by
    have h0 : (x 0).val = 0 := by have : (x 0).val < 1 := (x 0).isLt; omega
    rw [Shape.rowMajor_val_one, Shape.rowMajor_val_two]; simp [h0]
  have hw : ∀ n, shapeCast S16 (w n) shapeCasts_S1x16_S16 (ix1 (x 1)) = w n x := fun n => shapeCast_apply _ _ _ _ hx.symm
  unfold groupVec
  rw [shapeCast_apply _ _ _ _ hx]
  simp only [addf, mulf, broadcast, hw, gateOf_eq, tree8]

/-- A group computed from one row of the gates buffer and eight rows of the rows buffer is that group's part of the row's value. -/
theorem groupVec_piece {κ : Kind} {sp : Space} (rv : View sig κ sp S64x128 .f32) (gv : View sig κ sp S8x16 .f32) (fr : rv.ty.Contents (Elt F)) (fg : gv.ty.Contents (Elt F))
    (t c : ℕ) (offg : Fin 2 → ℕ) (hg : offg = ![t, 0]) (inbg : ∀ a, offg a + S1x16.size a ≤ S8x16.size a)
    (offr : Fin 8 → Fin 2 → ℕ) (hr : ∀ n, offr n = ![8 * t + n.val, c]) (inbr : ∀ n a, offr n a + S1x16.size a ≤ S64x128.size a)
    (offo : Fin 2 → ℕ) (ho : offo = ![t, c]) (inbo : ∀ a, offo a + S1x16.size a ≤ S8x128.size a) (x : S1x16.Idx) :
    groupVec (View.readAt (Elt F) gv (Rect.unit (s := S8x16) offg S1x16.size inbg).toLoadRect fg)
        (fun n => View.readAt (Elt F) rv (Rect.unit (s := S64x128) (offr n) S1x16.size (inbr n)).toLoadRect fr) x
      = rowVal (rv.read (Elt F) fr) (gv.read (Elt F) fg) ((Rect.unit (s := S8x128) offo S1x16.size inbo).emb x) := by
  have h0 : (x 0).val = 0 := by have : (x 0).val < 1 := (x 0).isLt; omega
  subst hg ho
  obtain rfl : offr = fun n => ![8 * t + n.val, c] := funext hr
  rw [groupVec_eq]; unfold rowVal
  congr 1; funext n
  congr 1
  · rw [View.readAt_eq_ld]
    refine congrArg (rv.read (Elt F) fr) (funext fun a => Fin.ext ?_)
    match a with
    | 0 => show 8 * t + n.val + 1 * (x 0).val = 8 * (t + 1 * (x 0).val) + n.val; omega
    | 1 => rfl
  · rw [View.readAt_eq_ld]
    refine congrArg (gv.read (Elt F) fg) (funext fun a => Fin.ext ?_)
    match a with
    | 0 => show t + 1 * 0 = t + 1 * (x 0).val; omega
    | 1 => show 0 + 1 * n.val = n.val; omega

theorem mem_piece (t c : ℕ) (off : Fin 2 → ℕ) (ho : off = ![t, c]) (inb : ∀ a, off a + S1x16.size a ≤ S8x128.size a) (y : S8x128.Idx)
    (h0 : (y 0).val = t) (h1 : c ≤ (y 1).val) (h2 : (y 1).val < c + 16) : y ∈ (Rect.unit (s := S8x128) off S1x16.size inb).set := by
  subst ho
  refine (Rect.unit (s := S8x128) ![t, c] S1x16.size inb).mem_set.mpr fun a => ?_
  match a with
  | 0 => exact ⟨0, by show 0 < 1; omega, by show (y 0).val = t + 1 * 0; omega⟩
  | 1 => exact ⟨(y 1).val - c, by show _ < 16; omega, by show (y 1).val = c + 1 * _; omega⟩

theorem not_mem_piece (t c : ℕ) (off : Fin 2 → ℕ) (ho : off = ![t, c]) (inb : ∀ a, off a + S1x16.size a ≤ S8x128.size a) (y : S8x128.Idx)
    (h0 : (y 0).val ≠ t) : y ∉ (Rect.unit (s := S8x128) off S1x16.size inb).set := by
  subst ho
  exact Rect.not_mem_set_of_axis _ y 0 t 1 rfl rfl rfl (by omega)

/-! ## One trip -/

set_option maxHeartbeats 4000000 in
theorem wp_rowTrip (rm : Memref sig .scVector .vmem S64x128 .f32) (hrm : rm.IsWhole) (gm : Memref sig .scVector .vmem S8x16 .f32) (hgm : gm.IsWhole)
    (om : Memref sig .scVector .vmem S8x128 .f32) (hom : om.IsWhole) (t : Fin k1_t2_loop.trips)
    (fr : Buf (Elt F) (rm.view.loc (V d (cV i) (jV i)))) (fg : Buf (Elt F) (gm.view.loc (V d (cV i) (jV i)))) (fo : Buf (Elt F) (om.view.loc (V d (cV i) (jV i)))) :
    iprop((rm.view.loc (V d (cV i) (jV i)) ↦{fullShare} fr) ∗ (gm.view.loc (V d (cV i) (jV i)) ↦{fullShare} fg)
        ∗ (om.view.loc (V d (cV i) (jV i)) ↦{fullShare} fo))
      ⊢ wp (M := 𝕄) frame (wpE (defs₀ (F := F)) 𝒱₀ (V d (cV i) (jV i)) none) Set.univ (rowTrip i rm hrm gm hgm om hom t ⟨⟩)
          fun _ => iprop((rm.view.loc (V d (cV i) (jV i)) ↦{fullShare} fr) ∗ (gm.view.loc (V d (cV i) (jV i)) ↦{fullShare} fg)
            ∗ ∃ f, ⌜∀ y, om.view.read (Elt F) f y = if (y 0).val = t.val then rowVal (rm.view.read (Elt F) fr) (gm.view.read (Elt F) fg) y else om.view.read (Elt F) fo y⌝
              ∗ (om.view.loc (V d (cV i) (jV i)) ↦{fullShare} f)) := by
  unfold rowTrip k1_t2_body
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold k1_part1_skel k1_part2_skel k1_part3_skel k1_part4_skel k1_part5_skel k1_part6_skel k1_part7_skel k1_part8_skel k1_part9_skel k1_part10_skel k1_part11_skel k1_part12_skel
  iintro ⟨Hr, Hg, Ho⟩
  sl_exec
  sl_step
  isplitl [Hr]; · iexact Hr
  isplitl [Hg]; · iexact Hg
  iexists _; isplitr [Ho]
  swap; · iexact Ho
  ipureintro; intro y
  split
  · rename_i hy
    refine View.read_writes_apply_of_pieces (Val := Elt F) (e := .f32) om.view fo (rowVal (rm.view.read (Elt F) fr) (gm.view.read (Elt F) fg)) _ ?_ y ?_
    · simp only [List.forall_mem_cons, List.not_mem_nil, false_imp_iff, implies_true, _root_.and_true]
      refine ⟨?_, ?_, ?_, ?_, ?_, ?_, ?_, ?_⟩
      · exact fun x => groupVec_piece rm.view gm.view fr fg t.val 112 _ (k1_off6_eq t) _ (fun n => k1_off20 t (BitVec.ofNat 32 n.val)) (k1_off20_eq t) (fun n => k1_off20_inb t n) _ (k1_off22_eq t) _ x
      · exact fun x => groupVec_piece rm.view gm.view fr fg t.val 96 _ (k1_off6_eq t) _ (fun n => k1_off18 t (BitVec.ofNat 32 n.val)) (k1_off18_eq t) (fun n => k1_off18_inb t n) _ (k1_off21_eq t) _ x
      · exact fun x => groupVec_piece rm.view gm.view fr fg t.val 80 _ (k1_off6_eq t) _ (fun n => k1_off16 t (BitVec.ofNat 32 n.val)) (k1_off16_eq t) (fun n => k1_off16_inb t n) _ (k1_off19_eq t) _ x
      · exact fun x => groupVec_piece rm.view gm.view fr fg t.val 64 _ (k1_off6_eq t) _ (fun n => k1_off14 t (BitVec.ofNat 32 n.val)) (k1_off14_eq t) (fun n => k1_off14_inb t n) _ (k1_off17_eq t) _ x
      · exact fun x => groupVec_piece rm.view gm.view fr fg t.val 48 _ (k1_off6_eq t) _ (fun n => k1_off12 t (BitVec.ofNat 32 n.val)) (k1_off12_eq t) (fun n => k1_off12_inb t n) _ (k1_off15_eq t) _ x
      · exact fun x => groupVec_piece rm.view gm.view fr fg t.val 32 _ (k1_off6_eq t) _ (fun n => k1_off10 t (BitVec.ofNat 32 n.val)) (k1_off10_eq t) (fun n => k1_off10_inb t n) _ (k1_off13_eq t) _ x
      · exact fun x => groupVec_piece rm.view gm.view fr fg t.val 16 _ (k1_off6_eq t) _ (fun n => k1_off8 t (BitVec.ofNat 32 n.val)) (k1_off8_eq t) (fun n => k1_off8_inb t n) _ (k1_off11_eq t) _ x
      · exact fun x => groupVec_piece rm.view gm.view fr fg t.val 0 _ (k1_off6_eq t) _ (fun n => k1_off7 t (BitVec.ofNat 32 n.val)) (k1_off7_eq t) (fun n => k1_off7_inb t n) _ (k1_off9_eq t) _ x
    · have h1 : (y 1).val < 128 := (y 1).isLt
      simp only [List.exists_mem_cons_iff, List.not_mem_nil, _root_.false_and, exists_false, _root_.or_false]
      rcases Nat.lt_or_ge (y 1).val 112 with h | h; swap; · exact .inl (mem_piece t.val 112 _ (k1_off22_eq t) _ y hy h (by omega))
      rcases Nat.lt_or_ge (y 1).val 96 with h | h; swap; · exact .inr (.inl (mem_piece t.val 96 _ (k1_off21_eq t) _ y hy h (by omega)))
      rcases Nat.lt_or_ge (y 1).val 80 with h | h; swap; · exact .inr (.inr (.inl (mem_piece t.val 80 _ (k1_off19_eq t) _ y hy h (by omega))))
      rcases Nat.lt_or_ge (y 1).val 64 with h | h; swap; · exact .inr (.inr (.inr (.inl (mem_piece t.val 64 _ (k1_off17_eq t) _ y hy h (by omega)))))
      rcases Nat.lt_or_ge (y 1).val 48 with h | h; swap; · exact .inr (.inr (.inr (.inr (.inl (mem_piece t.val 48 _ (k1_off15_eq t) _ y hy h (by omega))))))
      rcases Nat.lt_or_ge (y 1).val 32 with h | h; swap; · exact .inr (.inr (.inr (.inr (.inr (.inl (mem_piece t.val 32 _ (k1_off13_eq t) _ y hy h (by omega)))))))
      rcases Nat.lt_or_ge (y 1).val 16 with h | h; swap; · exact .inr (.inr (.inr (.inr (.inr (.inr (.inl (mem_piece t.val 16 _ (k1_off11_eq t) _ y hy h (by omega))))))))
      exact .inr (.inr (.inr (.inr (.inr (.inr (.inr (mem_piece t.val 0 _ (k1_off9_eq t) _ y hy (by omega) (by omega))))))))
  · rename_i hy
    refine View.read_writes_apply_of_forall_not_mem _ _ y _ ?_
    simp only [List.forall_mem_cons, List.not_mem_nil, false_imp_iff, implies_true, _root_.and_true]
    exact ⟨not_mem_piece t.val 112 _ (k1_off22_eq t) _ y hy, not_mem_piece t.val 96 _ (k1_off21_eq t) _ y hy, not_mem_piece t.val 80 _ (k1_off19_eq t) _ y hy, not_mem_piece t.val 64 _ (k1_off17_eq t) _ y hy, not_mem_piece t.val 48 _ (k1_off15_eq t) _ y hy, not_mem_piece t.val 32 _ (k1_off13_eq t) _ y hy, not_mem_piece t.val 16 _ (k1_off11_eq t) _ y hy, not_mem_piece t.val 0 _ (k1_off9_eq t) _ y hy⟩

end Cert.Proof.Sc

end
-- ==== Proof.RowLoop.lean ====
/-
  The row loop of one chunk, from its trips.
-/
module

public import proofs.«01_k».proof.Proof.Rows

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Fin nD) (i : grid1.Coords)

/-! ## The loop -/

/-- The row loop over the rows buffer `rm`, the gates buffer `gm` and the out buffer `om`. -/
def rowLoop (i : grid1.Coords) (rm : Memref sig .scVector .vmem S64x128 .f32) (hrm : rm.IsWhole) (gm : Memref sig .scVector .vmem S8x16 .f32) (hgm : gm.IsWhole)
    (om : Memref sig .scVector .vmem S8x128 .f32) (hom : om.IsWhole) :
    Prog (TpuEff nD τ sig (Elt F) Λ₀ (.scVector ((i 0).castLE hcore1) ((i 1).castLE hsub1))) Unit :=
  Scf.Loop.for k1_t2_loop k1_t2_ok ⟨⟩ (rowTrip i rm hrm gm hgm om hom)

theorem wp_rowLoop (rm : Memref sig .scVector .vmem S64x128 .f32) (hrm : rm.IsWhole) (gm : Memref sig .scVector .vmem S8x16 .f32) (hgm : gm.IsWhole)
    (om : Memref sig .scVector .vmem S8x128 .f32) (hom : om.IsWhole)
    (fr : Buf (Elt F) (rm.view.loc (V d (cV i) (jV i)))) (fg : Buf (Elt F) (gm.view.loc (V d (cV i) (jV i)))) (fo : Buf (Elt F) (om.view.loc (V d (cV i) (jV i)))) :
    iprop((rm.view.loc (V d (cV i) (jV i)) ↦{fullShare} fr) ∗ (gm.view.loc (V d (cV i) (jV i)) ↦{fullShare} fg)
        ∗ (om.view.loc (V d (cV i) (jV i)) ↦{fullShare} fo))
      ⊢ wp (M := 𝕄) frame (wpE (defs₀ (F := F)) 𝒱₀ (V d (cV i) (jV i)) none) Set.univ (rowLoop i rm hrm gm hgm om hom)
          fun _ => iprop((rm.view.loc (V d (cV i) (jV i)) ↦{fullShare} fr) ∗ (gm.view.loc (V d (cV i) (jV i)) ↦{fullShare} fg)
            ∗ ∃ f, ⌜om.view.read (Elt F) f = rowVal (rm.view.read (Elt F) fr) (gm.view.read (Elt F) fg)⌝
              ∗ (om.view.loc (V d (cV i) (jV i)) ↦{fullShare} f)) := by
  let I : ℕ → Unit → sProp 𝕄 := fun k _ => iprop((rm.view.loc (V d (cV i) (jV i)) ↦{fullShare} fr) ∗ (gm.view.loc (V d (cV i) (jV i)) ↦{fullShare} fg)
            ∗ ∃ f, ⌜∀ y, (y 0).val < k → om.view.read (Elt F) f y = rowVal (rm.view.read (Elt F) fr) (gm.view.read (Elt F) fg) y⌝
              ∗ (om.view.loc (V d (cV i) (jV i)) ↦{fullShare} f))
  have hbody : ∀ (k : Fin k1_t2_loop.trips) (acc : Unit), I k acc ⊢ wp (M := 𝕄) frame (wpE (defs₀ (F := F)) 𝒱₀ (V d (cV i) (jV i)) none) Set.univ
      (rowTrip i rm hrm gm hgm om hom k acc) (I (k.val + 1)) := by
    intro k acc
    iintro ⟨Hr, Hg, %f, %hf, Ho⟩
    iapply (wp_wand_r frame)
    isplitl [Hr Hg Ho]
    · iapply (wp_rowTrip d i rm hrm gm hgm om hom k fr fg f) $$ [Hr Hg Ho]
      isplitl [Hr]; · iexact Hr
      isplitl [Hg]; · iexact Hg
      iexact Ho
    iintro %_ ⟨Hr, Hg, %f', %hf', Ho⟩
    isplitl [Hr]; · iexact Hr
    isplitl [Hg]; · iexact Hg
    iexists f'; isplitr [Ho]
    · ipureintro; intro y hy
      rw [hf' y]; split
      · rfl
      · exact hf y (by omega)
    · iexact Ho
  iintro ⟨Hr, Hg, Ho⟩
  iapply (Scf.wp_for (M := 𝕄) frame (wpE (defs₀ (F := F)) 𝒱₀ (V d (cV i) (jV i)) none) Set.univ _ _ _ k1_t2_ok ⟨⟩ (rowTrip i rm hrm gm hgm om hom) I hbody)
  isplitl [Hr Hg Ho]
  · isplitl [Hr]; · iexact Hr
    isplitl [Hg]; · iexact Hg
    iexists fo; isplitr [Ho]
    · ipureintro; intro y hy; omega
    · iexact Ho
  iintro %_ ⟨Hr, Hg, %f, %hf, Ho⟩
  isplitl [Hr]; · iexact Hr
  isplitl [Hg]; · iexact Hg
  iexists f; isplitr [Ho]
  · ipureintro; funext y
    exact hf y (y 0).isLt
  · iexact Ho

end Cert.Proof.Sc

end
-- ==== Proof.Pieces.lean ====
/-
  The task of one vector subcore, put together from pieces that do not name a slot of the ring: waiting for a chunk's rows
  and gates, waiting for an out buffer's last copy, the row loop, sending a chunk of results, and starting the copies of a
  later chunk. The program text is shown equal to that arrangement.
-/
module

public import proofs.«01_k».proof.Proof.RowLoop

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The buffers and semaphores of a vector subcore, by slot of the ring -/

abbrev idxM : Memref sig .scVector .hbm S131072 .i32 := Memref.whole main_v10_scv
abbrev gatM : Memref sig .scVector .hbm S16384x16 .f32 := Memref.whole main_v1_scv
abbrev tblM : Memref sig .scVector .hbm S800000x128 .f32 := Memref.whole main_v11_scv
abbrev outM : Memref sig .scVector .hbm S16384x128 .f32 := Memref.whole main_v12_scv
abbrev lstM : Memref sig .scVector .vmem S4096 .i32 := Memref.whole cc1_scratch0

/-- The rows buffer of slot `q`. -/
def rM : Fin 8 → Memref sig .scVector .vmem S64x128 .f32
  | 0 => Memref.whole cc1_scratch1
  | 1 => Memref.whole cc1_scratch2
  | 2 => Memref.whole cc1_scratch3
  | 3 => Memref.whole cc1_scratch4
  | 4 => Memref.whole cc1_scratch5
  | 5 => Memref.whole cc1_scratch6
  | 6 => Memref.whole cc1_scratch7
  | 7 => Memref.whole cc1_scratch8

theorem rMw : ∀ q, (rM q).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _
  | 7 => Memref.isWhole_whole _

/-- The gates buffer of slot `q`. -/
def gM : Fin 8 → Memref sig .scVector .vmem S8x16 .f32
  | 0 => Memref.whole cc1_scratch9
  | 1 => Memref.whole cc1_scratch10
  | 2 => Memref.whole cc1_scratch11
  | 3 => Memref.whole cc1_scratch12
  | 4 => Memref.whole cc1_scratch13
  | 5 => Memref.whole cc1_scratch14
  | 6 => Memref.whole cc1_scratch15
  | 7 => Memref.whole cc1_scratch16

theorem gMw : ∀ q, (gM q).IsWhole
  | 0 => Memref.isWhole_whole _
  | 1 => Memref.isWhole_whole _
  | 2 => Memref.isWhole_whole _
  | 3 => Memref.isWhole_whole _
  | 4 => Memref.isWhole_whole _
  | 5 => Memref.isWhole_whole _
  | 6 => Memref.isWhole_whole _
  | 7 => Memref.isWhole_whole _

/-- The out buffer of parity `p`. -/
def oM : Fin 2 → Memref sig .scVector .vmem S8x128 .f32
  | 0 => Memref.whole cc1_scratch17
  | 1 => Memref.whole cc1_scratch18

theorem oMw : ∀ p, (oM p).IsWhole
  | 0 => Memref.isWhole_whole _
  | 1 => Memref.isWhole_whole _

/-- The semaphores: of slot `q`'s rows, of its gates, and of the out buffer of parity `p`. -/
def rS : Fin 8 → DmaSems sig S_
  | 0 => cc1_scratch19
  | 1 => cc1_scratch20
  | 2 => cc1_scratch21
  | 3 => cc1_scratch22
  | 4 => cc1_scratch23
  | 5 => cc1_scratch24
  | 6 => cc1_scratch25
  | 7 => cc1_scratch26

def gS : Fin 8 → DmaSems sig S_
  | 0 => cc1_scratch27
  | 1 => cc1_scratch28
  | 2 => cc1_scratch29
  | 3 => cc1_scratch30
  | 4 => cc1_scratch31
  | 5 => cc1_scratch32
  | 6 => cc1_scratch33
  | 7 => cc1_scratch34

def oS : Fin 2 → DmaSems sig S_
  | 0 => cc1_scratch35
  | 1 => cc1_scratch36

/-- A function of the kernel's operands at the operands the call is made with. -/
@[reducible] def onArgs {β : Type _}
    (f : (a0 : Memref sig .scVector .hbm S131072 .i32) → a0.IsWhole → (a1 : Memref sig .scVector .hbm S16384x16 .f32) → a1.IsWhole → (a2 : Memref sig .scVector .hbm S800000x128 .f32) → a2.IsWhole →
      (a3 : Memref sig .scVector .hbm S16384x128 .f32) → a3.IsWhole → (a4 : Memref sig .scVector .vmem S4096 .i32) → a4.IsWhole → (a5 : Memref sig .scVector .vmem S64x128 .f32) → a5.IsWhole →
      (a6 : Memref sig .scVector .vmem S64x128 .f32) → a6.IsWhole → (a7 : Memref sig .scVector .vmem S64x128 .f32) → a7.IsWhole → (a8 : Memref sig .scVector .vmem S64x128 .f32) → a8.IsWhole →
      (a9 : Memref sig .scVector .vmem S64x128 .f32) → a9.IsWhole → (a10 : Memref sig .scVector .vmem S64x128 .f32) → a10.IsWhole → (a11 : Memref sig .scVector .vmem S64x128 .f32) → a11.IsWhole →
      (a12 : Memref sig .scVector .vmem S64x128 .f32) → a12.IsWhole → (a13 : Memref sig .scVector .vmem S8x16 .f32) → a13.IsWhole → (a14 : Memref sig .scVector .vmem S8x16 .f32) → a14.IsWhole →
      (a15 : Memref sig .scVector .vmem S8x16 .f32) → a15.IsWhole → (a16 : Memref sig .scVector .vmem S8x16 .f32) → a16.IsWhole → (a17 : Memref sig .scVector .vmem S8x16 .f32) → a17.IsWhole →
      (a18 : Memref sig .scVector .vmem S8x16 .f32) → a18.IsWhole → (a19 : Memref sig .scVector .vmem S8x16 .f32) → a19.IsWhole → (a20 : Memref sig .scVector .vmem S8x16 .f32) → a20.IsWhole →
      (a21 : Memref sig .scVector .vmem S8x128 .f32) → a21.IsWhole → (a22 : Memref sig .scVector .vmem S8x128 .f32) → a22.IsWhole → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → DmaSems sig S_ → β) : β :=
  f (Memref.whole main_v10_scv) (Memref.isWhole_whole _) (Memref.whole main_v1_scv) (Memref.isWhole_whole _) (Memref.whole main_v11_scv)
    (Memref.isWhole_whole _) (Memref.whole main_v12_scv) (Memref.isWhole_whole _) (Memref.whole cc1_scratch0) (Memref.isWhole_whole _) (Memref.whole
    cc1_scratch1) (Memref.isWhole_whole _) (Memref.whole cc1_scratch2) (Memref.isWhole_whole _) (Memref.whole cc1_scratch3) (Memref.isWhole_whole _)
    (Memref.whole cc1_scratch4) (Memref.isWhole_whole _) (Memref.whole cc1_scratch5) (Memref.isWhole_whole _) (Memref.whole cc1_scratch6)
    (Memref.isWhole_whole _) (Memref.whole cc1_scratch7) (Memref.isWhole_whole _) (Memref.whole cc1_scratch8) (Memref.isWhole_whole _) (Memref.whole
    cc1_scratch9) (Memref.isWhole_whole _) (Memref.whole cc1_scratch10) (Memref.isWhole_whole _) (Memref.whole cc1_scratch11) (Memref.isWhole_whole _)
    (Memref.whole cc1_scratch12) (Memref.isWhole_whole _) (Memref.whole cc1_scratch13) (Memref.isWhole_whole _) (Memref.whole cc1_scratch14)
    (Memref.isWhole_whole _) (Memref.whole cc1_scratch15) (Memref.isWhole_whole _) (Memref.whole cc1_scratch16) (Memref.isWhole_whole _) (Memref.whole
    cc1_scratch17) (Memref.isWhole_whole _) (Memref.whole cc1_scratch18) (Memref.isWhole_whole _)
    cc1_scratch19 cc1_scratch20 cc1_scratch21 cc1_scratch22 cc1_scratch23 cc1_scratch24 cc1_scratch25 cc1_scratch26 cc1_scratch27 cc1_scratch28
    cc1_scratch29 cc1_scratch30 cc1_scratch31 cc1_scratch32 cc1_scratch33 cc1_scratch34 cc1_scratch35 cc1_scratch36 cc1_scoped0

/-! ## The pieces -/

/-- A program of the vector subcore at grid point `i`. -/
abbrev TProg (F : FTy → Type) (i : grid1.Coords) (α : Type) : Type 1 :=
  Prog (TpuEff nD τ sig (Elt F) Λ₀ (.scVector ((i 0).castLE hcore1) ((i 1).castLE hsub1))) α

/-- The whole table, as the indirect copies name it. -/
abbrev tblW : Memref sig .scVector .hbm S800000x128 .f32 :=
  tblM.slice (Rect.unit (s := S800000x128) ![0, 0] S800000x128.size inb_S800000x128_S800000x128_0_0) (fun _ => rfl)

/-- Sixty-four words of the fetched list, eight rows of the gates, eight rows of the result. -/
abbrev lstAt (off : Fin 1 → ℕ) (inb : ∀ a, off a + S64.size a ≤ S4096.size a) : Memref sig .scVector .vmem S64 .i32 :=
  lstM.slice (Rect.unit (s := S4096) off S64.size inb) (fun _ => rfl)
abbrev gatAt (off : Fin 2 → ℕ) (inb : ∀ a, off a + S8x16.size a ≤ S16384x16.size a) : Memref sig .scVector .hbm S8x16 .f32 :=
  gatM.slice (Rect.unit (s := S16384x16) off S8x16.size inb) (fun _ => rfl)
abbrev outAt (off : Fin 2 → ℕ) (inb : ∀ a, off a + S8x128.size a ≤ S16384x128.size a) : Memref sig .scVector .hbm S8x128 .f32 :=
  outM.slice (Rect.unit (s := S16384x128) off S8x128.size inb) (fun _ => rfl)

variable (i : grid1.Coords)

/-- Start the indirect copy of a chunk's rows into slot `q`. -/
def gatherP (q : Fin 8) (offL : Fin 1 → ℕ) (inbL : ∀ a, offL a + S64.size a ≤ S4096.size a) : TProg F i PUnit :=
  SparseCore.enqueueIndirectGather rfl tblW (rM q) gathers_S800000x128_S64x128 (lstAt offL inbL) rfl (rS q).sem (View.wordExact_bits rfl) rfl (Or.inl rfl)

/-- Start the copy of a chunk's gates into slot `q`. -/
def gatesP (q : Fin 8) (offG : Fin 2 → ℕ) (inbG : ∀ a, offG a + S8x16.size a ≤ S16384x16.size a) : TProg F i PUnit :=
  Prog.lift (.enqueueDma (gatAt offG inbG) (.here (gM q)) (.dma (gS q).sem) (View.wordExact_bits rfl) (gMw q).wordExact ⟨Or.inl rfl, trivial⟩)

/-- Wait for slot `q`'s rows and gates. -/
def waitsP (q : Fin 8) (offA : Fin 2 → ℕ) (inbA : ∀ a, offA a + S8x16.size a ≤ S16384x16.size a) : TProg F i PUnit := do
  SparseCore.waitIndirectGather (rS q).sem tblW (rM q) (View.wordExact_bits rfl) (rMw q).wordExact
  Prog.lift (.waitDma2 (gS q).sem (gatAt offA inbA) (gM q) (View.wordExact_bits rfl) (gMw q).wordExact)

/-- Wait for the out buffer's last copy. -/
def outWaitP (p : Fin 2) (offP : Fin 2 → ℕ) (inbP : ∀ a, offP a + S8x128.size a ≤ S16384x128.size a) : TProg F i PUnit :=
  Prog.lift (.waitDma2 (oS p).sem (oM p) (outAt offP inbP) (oMw p).wordExact (View.wordExact_bits rfl))

/-- The same, under the kernel's condition that there is one. -/
def oldP (p : Fin 2) (C : BitVec 1) (offP : Fin 2 → ℕ) (inbP : C = 1#1 → ∀ a, offP a + S8x128.size a ≤ S16384x128.size a) : TProg F i PUnit :=
  if h : C = 1#1 then outWaitP i p offP (inbP h) else pure ⟨⟩

/-- Send the out buffer to its eight rows of the result. -/
def outP (p : Fin 2) (offO : Fin 2 → ℕ) (inbO : ∀ a, offO a + S8x128.size a ≤ S16384x128.size a) : TProg F i PUnit :=
  Prog.lift (.enqueueDma (oM p) (.here (outAt offO inbO)) (.dma (oS p).sem) (oMw p).wordExact (View.wordExact_bits rfl) ⟨Or.inl rfl, trivial⟩)

/-- Start the slot's next chunk, under the kernel's condition that there is one. -/
def refillP (q : Fin 8) (C : BitVec 1) (offL : Fin 1 → ℕ) (inbL : C = 1#1 → ∀ a, offL a + S64.size a ≤ S4096.size a)
    (offG : Fin 2 → ℕ) (inbG : C = 1#1 → ∀ a, offG a + S8x16.size a ≤ S16384x16.size a) : TProg F i PUnit :=
  if h : C = 1#1 then do
    gatherP i q offL (inbL h)
    gatesP i q offG (inbG h)
  else pure ⟨⟩

/-- What slot `q` does with a chunk once its rows and gates have landed. -/
def midP (q : Fin 8) (p : Fin 2) (C : BitVec 1) (offP : Fin 2 → ℕ) (inbP : C = 1#1 → ∀ a, offP a + S8x128.size a ≤ S16384x128.size a)
    (offO : Fin 2 → ℕ) (inbO : ∀ a, offO a + S8x128.size a ≤ S16384x128.size a) (C' : BitVec 1)
    (offL : Fin 1 → ℕ) (inbL : C' = 1#1 → ∀ a, offL a + S64.size a ≤ S4096.size a)
    (offG : Fin 2 → ℕ) (inbG : C' = 1#1 → ∀ a, offG a + S8x16.size a ≤ S16384x16.size a) : TProg F i PUnit := do
  oldP i p C offP inbP
  rowLoop i (rM q) (rMw q) (gM q) (gMw q) (oM p) (oMw p)
  outP i p offO inbO
  refillP i q C' offL inbL offG inbG

/-! ## The row loops -/

variable (v2 a b e : BitVec 32) (c : BitVec 1) (t : Fin k1_t1_loop.trips)

theorem loop0_eq : Scf.Loop.for k1_t2_loop k1_t2_ok ⟨⟩ (onArgs (k1_t2_body (F := F) i) v2 a b t) = rowLoop i (rM 0) (rMw 0) (gM 0) (gMw 0) (oM 0) (oMw 0) := rfl
theorem loop1_eq : Scf.Loop.for k1_t3_loop k1_t3_ok ⟨⟩ (onArgs (k1_t3_body (F := F) i) v2 t a b) = rowLoop i (rM 1) (rMw 1) (gM 1) (gMw 1) (oM 1) (oMw 1) := rfl
theorem loop2_eq : Scf.Loop.for k1_t4_loop k1_t4_ok ⟨⟩ (onArgs (k1_t4_body (F := F) i) v2 t a b c) = rowLoop i (rM 2) (rMw 2) (gM 2) (gMw 2) (oM 0) (oMw 0) := rfl
theorem loop3_eq : Scf.Loop.for k1_t5_loop k1_t5_ok ⟨⟩ (onArgs (k1_t5_body (F := F) i) v2 t a b c) = rowLoop i (rM 3) (rMw 3) (gM 3) (gMw 3) (oM 1) (oMw 1) := rfl
theorem loop4_eq : Scf.Loop.for k1_t6_loop k1_t6_ok ⟨⟩ (onArgs (k1_t6_body (F := F) i) v2 t a b e) = rowLoop i (rM 4) (rMw 4) (gM 4) (gMw 4) (oM 0) (oMw 0) := rfl
theorem loop5_eq : Scf.Loop.for k1_t7_loop k1_t7_ok ⟨⟩ (onArgs (k1_t7_body (F := F) i) v2 t a b e) = rowLoop i (rM 5) (rMw 5) (gM 5) (gMw 5) (oM 1) (oMw 1) := rfl
theorem loop6_eq : Scf.Loop.for k1_t8_loop k1_t8_ok ⟨⟩ (onArgs (k1_t8_body (F := F) i) v2 t a b) = rowLoop i (rM 6) (rMw 6) (gM 6) (gMw 6) (oM 0) (oMw 0) := rfl
theorem loop7_eq : Scf.Loop.for k1_t9_loop k1_t9_ok ⟨⟩ (onArgs (k1_t9_body (F := F) i) ) = rowLoop i (rM 7) (rMw 7) (gM 7) (gMw 7) (oM 1) (oMw 1) := rfl

end Cert.Proof.Sc

end
-- ==== Proof.Trip.lean ====
/-
  One trip of the ring of eight slots, and the whole task, as sequences of the pieces: the same text for every slot.
-/
module

public import proofs.«01_k».proof.Proof.Pieces

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- The parity of a slot: which out buffer it uses. -/
def pr (q : Fin 8) : Fin 2 := ⟨q.val % 2, Nat.mod_lt _ (by decide)⟩

abbrev Trip : Type := Fin k1_t1_loop.trips

/-! ## What a slot's text names, by slot -/

/-- Whether the out buffer has an earlier copy to wait for. -/
def cP : Fin 8 → Trip → BitVec 1
  | 0 => k1_cond1
  | 1 => k1_cond3
  | 2 => k1_cond5
  | 3 => k1_cond7
  | 4 => k1_cond9
  | 5 => k1_cond11
  | 6 => k1_cond13
  | 7 => k1_cond15

/-- Whether the slot has a next chunk. -/
def cL : Fin 8 → Trip → BitVec 1
  | 0 => k1_cond2
  | 1 => k1_cond4
  | 2 => k1_cond6
  | 3 => k1_cond8
  | 4 => k1_cond10
  | 5 => k1_cond12
  | 6 => k1_cond14
  | 7 => k1_cond16

/-- The rows of the result named by the wait for that copy. -/
def fP : Fin 8 → grid1.Coords → Trip → Fin 2 → ℕ
  | 0 => k1_off5
  | 1 => k1_off26
  | 2 => k1_off46
  | 3 => k1_off66
  | 4 => k1_off86
  | 5 => k1_off106
  | 6 => k1_off126
  | 7 => k1_off146

theorem fP_inb : ∀ q i t, cP q t = 1#1 → ∀ a, fP q i t a + S8x128.size a ≤ S16384x128.size a
  | 0 => k1_off5_inb
  | 1 => k1_off26_inb
  | 2 => k1_off46_inb
  | 3 => k1_off66_inb
  | 4 => k1_off86_inb
  | 5 => k1_off106_inb
  | 6 => k1_off126_inb
  | 7 => k1_off146_inb

/-- Where in the list the next chunk's words are. -/
def fL : Fin 8 → Trip → Fin 1 → ℕ
  | 0 => k1_off24
  | 1 => k1_off44
  | 2 => k1_off64
  | 3 => k1_off84
  | 4 => k1_off104
  | 5 => k1_off124
  | 6 => k1_off144
  | 7 => k1_off164

theorem fL_inb : ∀ q t, cL q t = 1#1 → ∀ a, fL q t a + S64.size a ≤ S4096.size a
  | 0 => k1_off24_inb
  | 1 => k1_off44_inb
  | 2 => k1_off64_inb
  | 3 => k1_off84_inb
  | 4 => k1_off104_inb
  | 5 => k1_off124_inb
  | 6 => k1_off144_inb
  | 7 => k1_off164_inb

/-- Which rows of the gates are the next chunk's. -/
def fG : Fin 8 → grid1.Coords → Trip → Fin 2 → ℕ
  | 0 => k1_off25
  | 1 => k1_off45
  | 2 => k1_off65
  | 3 => k1_off85
  | 4 => k1_off105
  | 5 => k1_off125
  | 6 => k1_off145
  | 7 => k1_off165

theorem fG_inb : ∀ q i t, cL q t = 1#1 → ∀ a, fG q i t a + S8x16.size a ≤ S16384x16.size a
  | 0 => k1_off25_inb
  | 1 => k1_off45_inb
  | 2 => k1_off65_inb
  | 3 => k1_off85_inb
  | 4 => k1_off105_inb
  | 5 => k1_off125_inb
  | 6 => k1_off145_inb
  | 7 => k1_off165_inb

theorem first_inb : ∀ (q : Fin 8) a, ![64 * q.val] a + S64.size a ≤ S4096.size a := by decide

variable (i : grid1.Coords) (t : Trip)

/-! ## The pieces of a slot -/

def pWait (q : Fin 8) : TProg F i PUnit := waitsP i q (k1_off4 i t (BitVec.ofNat 32 q.val)) (k1_off4_inb i t q)
def pOld (q : Fin 8) : TProg F i PUnit := oldP i (pr q) (cP q t) (fP q i t) (fP_inb q i t)
def pRow (q : Fin 8) : TProg F i Unit := rowLoop i (rM q) (rMw q) (gM q) (gMw q) (oM (pr q)) (oMw (pr q))
def pOut (q : Fin 8) : TProg F i PUnit := outP i (pr q) (k1_off23 i t (BitVec.ofNat 32 q.val)) (k1_off23_inb i t q)
def pRefill (q : Fin 8) : TProg F i PUnit := refillP i q (cL q t) (fL q t) (fL_inb q t) (fG q i t) (fG_inb q i t)

/-- What slot `q` does in trip `t`. -/
def slotP (q : Fin 8) : TProg F i PUnit := do
  pWait i t q
  pOld i t q
  let _ ← pRow i q
  pOut i t q
  pRefill i t q

/-- The first chunk of slot `q`. -/
def pFirstL (q : Fin 8) : TProg F i PUnit := gatherP i q ![64 * q.val] (first_inb q)
def pFirstG (q : Fin 8) : TProg F i PUnit := gatesP i q (k1_off2 i (BitVec.ofNat 32 (8 * q.val))) (k1_off2_inb i q)
def startP (q : Fin 8) : TProg F i PUnit := do
  pFirstL i q
  pFirstG i q

/-- The tile's words of the list, and their copy into the subcore's memory. -/
abbrev idxAt : Memref sig .scVector .hbm S4096 .i32 :=
  idxM.slice (Rect.unit (s := S131072) (k1_off1 i) S4096.size (k1_off1_inb i)) (fun _ => rfl)
def listP : TProg F i PUnit := do
  Prog.lift (.enqueueDma (idxAt i) (.here lstM) (.dma cc1_scoped0.sem) (View.wordExact_bits rfl) (Memref.isWhole_whole cc1_scratch0).wordExact ⟨Or.inl rfl, trivial⟩)
  Prog.lift (.waitDma2 cc1_scoped0.sem (idxAt i) lstM (View.wordExact_bits rfl) (Memref.isWhole_whole cc1_scratch0).wordExact)

def firstP : TProg F i PUnit := do
  startP i 0
  startP i 1
  startP i 2
  startP i 3
  startP i 4
  startP i 5
  startP i 6
  startP i 7

def tripP : TProg F i Unit := do
  slotP i t 0
  slotP i t 1
  slotP i t 2
  slotP i t 3
  slotP i t 4
  slotP i t 5
  slotP i t 6
  slotP i t 7

/-- The wait for the last copy out of the buffer of parity `p`. -/
def lastP (p : Fin 2) : TProg F i PUnit := outWaitP i p (k1_off166 i (BitVec.ofNat 32 (8 * p.val))) (k1_off166_inb i p)

def taskP : TProg F i PUnit := do
  listP i
  firstP i
  let _ ← Scf.Loop.for k1_t1_loop k1_t1_ok ⟨⟩ (fun t _ => tripP i t)
  lastP i 0
  lastP i 1

/-! ## The parts of the text -/

variable (v2 a b e : BitVec 32) (c : BitVec 1)

theorem part97_eq : ∃ r, onArgs (k1_part97 (F := F) i) v2 0#32 1#32 t = (do
    pWait i t 0
    pOld i t 0
    let _ ← pRow i 0
    pOut i t 0
    pRefill i t 0
    pure r) := by
  rw [k1_part97_eq_skeleton]
  apply Exists.intro
  rcases Decidable.em (k1_cond1 t = 1#1) with h0 | h0 <;>
  rcases Decidable.em (k1_cond2 t = 1#1) with h1 | h1 <;>
  simp only [k1_part97_skel, onArgs, pOld, oldP, pRefill, refillP, cP, cL, h0, h1, ↓reduceDIte, bind_assoc, pure_bind]
  all_goals rfl

theorem part98_eq : ∃ r, onArgs (k1_part98 (F := F) i) v2 t a b = (do
    pWait i t 1
    pOld i t 1
    let _ ← pRow i 1
    pOut i t 1
    pRefill i t 1
    pWait i t 2
    pure r) := by
  rw [k1_part98_eq_skeleton]
  apply Exists.intro
  rcases Decidable.em (k1_cond3 t = 1#1) with h0 | h0 <;>
  rcases Decidable.em (k1_cond4 t = 1#1) with h1 | h1 <;>
  simp only [k1_part98_skel, onArgs, pOld, oldP, pRefill, refillP, cP, cL, h0, h1, ↓reduceDIte, bind_assoc, pure_bind]
  all_goals rfl

theorem part99_eq : ∃ r, onArgs (k1_part99 (F := F) i) v2 t a b c = (do
    pOld i t 2
    let _ ← pRow i 2
    pOut i t 2
    pRefill i t 2
    pWait i t 3
    pOld i t 3
    let _ ← pRow i 3
    pure r) := by
  rw [k1_part99_eq_skeleton]
  apply Exists.intro
  rcases Decidable.em (k1_cond5 t = 1#1) with h0 | h0 <;>
  rcases Decidable.em (k1_cond6 t = 1#1) with h1 | h1 <;>
  rcases Decidable.em (k1_cond7 t = 1#1) with h2 | h2 <;>
  simp only [k1_part99_skel, onArgs, pOld, oldP, pRefill, refillP, cP, cL, h0, h1, h2, ↓reduceDIte, bind_assoc, pure_bind]
  all_goals rfl

theorem part100_eq : ∃ r, onArgs (k1_part100 (F := F) i) v2 t a b e = (do
    pOut i t 3
    pRefill i t 3
    pWait i t 4
    pOld i t 4
    let _ ← pRow i 4
    pOut i t 4
    pure r) := by
  rw [k1_part100_eq_skeleton]
  apply Exists.intro
  rcases Decidable.em (k1_cond8 t = 1#1) with h0 | h0 <;>
  rcases Decidable.em (k1_cond9 t = 1#1) with h1 | h1 <;>
  simp only [k1_part100_skel, onArgs, pOld, oldP, pRefill, refillP, cP, cL, h0, h1, ↓reduceDIte, bind_assoc, pure_bind]
  all_goals rfl

theorem part101_eq : ∃ r, onArgs (k1_part101 (F := F) i) v2 t a b e = (do
    pRefill i t 4
    pWait i t 5
    pOld i t 5
    let _ ← pRow i 5
    pOut i t 5
    pRefill i t 5
    pure r) := by
  rw [k1_part101_eq_skeleton]
  apply Exists.intro
  rcases Decidable.em (k1_cond10 t = 1#1) with h0 | h0 <;>
  rcases Decidable.em (k1_cond11 t = 1#1) with h1 | h1 <;>
  rcases Decidable.em (k1_cond12 t = 1#1) with h2 | h2 <;>
  simp only [k1_part101_skel, onArgs, pOld, oldP, pRefill, refillP, cP, cL, h0, h1, h2, ↓reduceDIte, bind_assoc, pure_bind]
  all_goals rfl

theorem part102_eq : ∃ r, onArgs (k1_part102 (F := F) i) v2 t a b = (do
    pWait i t 6
    pOld i t 6
    let _ ← pRow i 6
    pOut i t 6
    pRefill i t 6
    pWait i t 7
    pure r) := by
  rw [k1_part102_eq_skeleton]
  apply Exists.intro
  rcases Decidable.em (k1_cond13 t = 1#1) with h0 | h0 <;>
  rcases Decidable.em (k1_cond14 t = 1#1) with h1 | h1 <;>
  simp only [k1_part102_skel, onArgs, pOld, oldP, pRefill, refillP, cP, cL, h0, h1, ↓reduceDIte, bind_assoc, pure_bind]
  all_goals rfl

theorem part103_eq : ∃ r, onArgs (k1_part103 (F := F) i) = (do
    listP i
    startP i 0
    startP i 1
    startP i 2
    pFirstL i 3
    pure r) := by
  rw [k1_part103_eq_skeleton]
  apply Exists.intro
  simp only [k1_part103_skel, onArgs, listP, startP, bind_assoc, pure_bind]
  rfl

theorem part104_eq : onArgs (k1_part104 (F := F) i) v2 = (do
    pFirstG i 3
    startP i 4
    startP i 5
    startP i 6
    startP i 7) := by
  rw [k1_part104_eq_skeleton]
  simp only [k1_part104_skel, onArgs, startP, bind_assoc, pure_bind]
  rfl

/-! ## The trip and the task -/

theorem trip_eq : onArgs (k1_t1_body (F := F) i) v2 t ⟨⟩ = tripP i t := by
  obtain ⟨r97, h97⟩ := part97_eq (F := F) i t v2
  obtain ⟨r98, h98⟩ := part98_eq (F := F) i t v2 r97.1 r97.2
  obtain ⟨r99, h99⟩ := part99_eq (F := F) i t v2 r97.1 r98.1 r98.2
  obtain ⟨r100, h100⟩ := part100_eq (F := F) i t v2 r97.1 r99.1 r99.2
  obtain ⟨r101, h101⟩ := part101_eq (F := F) i t v2 r97.1 r100.1 r100.2
  obtain ⟨r102, h102⟩ := part102_eq (F := F) i t v2 r97.1 r101
  simp only [onArgs] at h97 h98 h99 h100 h101 h102
  simp only [onArgs, k1_t1_body, h97, h98, h99, h100, h101, h102, bind_assoc, pure_bind, tripP, slotP]
  rcases Decidable.em (k1_cond15 t = 1#1) with h | h <;> rcases Decidable.em (k1_cond16 t = 1#1) with h' | h' <;>
  simp only [pOld, oldP, pRefill, refillP, cP, cL, h, h', ↓reduceDIte, bind_assoc, pure_bind]
  all_goals rfl

theorem task_eq : onArgs (cc1__sc_combine_body (F := F) i) = taskP i := by
  rw [cc1__sc_combine_body_eq_skeleton]
  obtain ⟨r, h103⟩ := part103_eq (F := F) i
  have h104 := part104_eq (F := F) i r
  have ht : onArgs (k1_t1_body (F := F) i) r = fun t _ => tripP i t := funext fun t => funext fun _ => trip_eq i t r
  simp only [onArgs] at h103 h104 ht
  simp only [onArgs, cc1__sc_combine_body_skel, h103, h104, ht, bind_assoc, pure_bind, taskP, firstP, startP]
  rfl

end Cert.Proof.Sc

end
-- ==== Proof.Spec.lean ====
/-
  What the vector subcores compute, as plain functions of the arrays they read, and the places of the slices they read and
  write. `R` is the first batch row of a chunk of eight.
-/
module

public import proofs.«01_k».proof.Proof.Trip
public import Idealize.ShloMosaic.Lib.Pipeline.ValueKit.Geometry

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The values -/

/-- Word `n` of the list, row `n` of the gates and of the result, row `n` of the table: `n` itself where it is in range. -/
def li (n : ℕ) : Fin 131072 := ⟨n % 131072, Nat.mod_lt _ (by decide)⟩
def ri (n : ℕ) : Fin 16384 := ⟨n % 16384, Nat.mod_lt _ (by decide)⟩
def ti (n : ℕ) : Fin 800000 := ⟨n % 800000, Nat.mod_lt _ (by decide)⟩

/-- The rows of the table that the list names for the chunk at `R`. -/
def gathered (T : S800000x128.Idx → Elt F .f32) (Lst : S131072.Idx → Elt F .i32) (R : ℕ) : S64x128.Idx → F .f32 :=
  fun x => T (ix2 (ti (Lst (ix1 (li (8 * R + (x 0).val)))).toNat) (x 1))

/-- The gates of the chunk at `R`. -/
def gateRows (G : S16384x16.Idx → Elt F .f32) (R : ℕ) : S8x16.Idx → F .f32 :=
  fun y => G (ix2 (ri (R + (y 0).val)) (y 1))

/-- The whole result: every row the gated sum of the eight table rows that the list names for it. -/
def comb (T : S800000x128.Idx → Elt F .f32) (Lst : S131072.Idx → Elt F .i32) (G : S16384x16.Idx → Elt F .f32) :
    S16384x128.Idx → F .f32 :=
  fun x => tree8 fun n => FloatOps.mulf (T (ix2 (ti (Lst (ix1 (li (8 * (x 0).val + n.val)))).toNat) (x 1))) (G (ix2 (x 0) ⟨n.val, by omega⟩))

theorem rowVal_chunk (T : S800000x128.Idx → Elt F .f32) (Lst : S131072.Idx → Elt F .i32) (G : S16384x16.Idx → Elt F .f32)
    (R : ℕ) (hR : R + 8 ≤ 16384) (y : S8x128.Idx) (x : S16384x128.Idx) (h0 : (x 0).val = R + (y 0).val) (h1 : (x 1).val = (y 1).val) :
    rowVal (gathered T Lst R) (gateRows G R) y = comb T Lst G x := by
  have hy0 : (y 0).val < 8 := (y 0).isLt
  unfold rowVal comb
  congr 1; funext n
  have e1 : (x 1) = (y 1) := Fin.ext h1
  have e0 : ri (R + (y 0).val) = x 0 := Fin.ext (by rw [h0]; exact Nat.mod_eq_of_lt (by omega))
  unfold gathered gateRows
  simp only [ix2, e0, e1, h0]
  rw [show 8 * R + (8 * (y 0).val + n.val) = 8 * (R + (y 0).val) + n.val by ring]

/-! ## The rows of the result -/

/-- The elements of the result in rows `lo ≤ · < hi`. -/
def rowsSet (lo hi : ℕ) : Finset S16384x128.Idx := Finset.univ.filter fun x => lo ≤ (x 0).val ∧ (x 0).val < hi

theorem mem_rowsSet {lo hi : ℕ} {x : S16384x128.Idx} : x ∈ rowsSet lo hi ↔ lo ≤ (x 0).val ∧ (x 0).val < hi := by
  unfold rowsSet; rw [Finset.mem_filter]; exact and_iff_right (Finset.mem_univ x)

theorem rowsSet_self (lo : ℕ) : rowsSet lo lo = ∅ :=
  Finset.eq_empty_of_forall_notMem fun x hx => by have := mem_rowsSet.mp hx; omega

theorem rowsSet_subset {lo lo' hi hi' : ℕ} (h : lo' ≤ lo) (h' : hi ≤ hi') : rowsSet lo hi ⊆ rowsSet lo' hi' :=
  fun x hx => by have := mem_rowsSet.mp hx; exact mem_rowsSet.mpr ⟨by omega, by omega⟩

theorem rowsSet_sdiff_left {lo mid hi : ℕ} (h : lo ≤ mid) (h' : mid ≤ hi) : rowsSet lo hi \ rowsSet lo mid = rowsSet mid hi := by
  ext x; rw [Finset.mem_sdiff, mem_rowsSet, mem_rowsSet, mem_rowsSet]; omega

theorem rowsSet_sdiff_right {lo mid hi : ℕ} (h : lo ≤ mid) (h' : mid ≤ hi) : rowsSet lo hi \ rowsSet mid hi = rowsSet lo mid := by
  ext x; rw [Finset.mem_sdiff, mem_rowsSet, mem_rowsSet, mem_rowsSet]; omega

theorem outAt_set (R : ℕ) (off : Fin 2 → ℕ) (inb : ∀ a, off a + S8x128.size a ≤ S16384x128.size a) (h : off = ![R, 0]) :
    (outAt off inb).view.set = rowsSet R (R + 8) := by
  subst h
  ext x
  refine (Iff.of_eq (congrArg (x ∈ ·) (View.set_slice_whole (main_v12_scv : Ref sig .scVector) _))).trans ?_
  rw [Rect.mem_set_unit, mem_rowsSet]
  refine (Fin.forall_fin_two (p := fun a : Fin 2 => ![R, 0] a ≤ (x a).val ∧ (x a).val < ![R, 0] a + S8x128.size a)).trans ?_
  have h1 : (x 1).val < 128 := (x 1).isLt
  show (R ≤ (x 0).val ∧ (x 0).val < R + 8) ∧ (0 ≤ (x 1).val ∧ (x 1).val < 0 + 128) ↔ _
  omega

/-! ## What the slices read and write -/

theorem gatAt_read (G : S16384x16.Idx → Elt F .f32) (R : ℕ) (off : Fin 2 → ℕ) (inb : ∀ a, off a + S8x16.size a ≤ S16384x16.size a) (h : off = ![R, 0]) :
    (gatAt off inb).view.read (Elt F) G = gateRows G R := by
  subst h
  funext y
  have hR : R + 8 ≤ 16384 := inb 0
  refine (View.read_apply _ _).trans ((cast_eq _ _).trans (congrArg G (funext fun a => Fin.ext ?_)))
  refine (ValueKit.rect_emb_unit_val _ _ _ _ a).trans ?_
  have hy0 : (y 0).val < 8 := (y 0).isLt
  match a with
  | 0 => exact (Nat.mod_eq_of_lt (show R + (y 0).val < 16384 by omega)).symm
  | 1 => exact Nat.zero_add _

theorem lstAt_read (fi : S4096.Idx → Elt F .i32) (C : ℕ) (off : Fin 1 → ℕ) (inb : ∀ a, off a + S64.size a ≤ S4096.size a) (h : off = ![C])
    (y : S64.Idx) (hC : C + (y 0).val < 4096) : (lstAt off inb).view.read (Elt F) fi y = fi (ix1 ⟨C + (y 0).val, hC⟩) := by
  subst h
  refine (View.read_apply _ _).trans ((cast_eq _ _).trans (congrArg fi (funext fun a => Fin.ext ?_)))
  refine (ValueKit.rect_emb_unit_val _ _ _ _ a).trans ?_
  match a with
  | 0 => rfl

theorem tblW_read (T : S800000x128.Idx → Elt F .f32) : (tblW).view.read (Elt F) T = T := by
  funext y
  refine (View.read_apply _ _).trans ((cast_eq _ _).trans (congrArg T (funext fun a => Fin.ext ?_)))
  refine (ValueKit.rect_emb_unit_val _ _ _ _ a).trans ?_
  match a with
  | 0 => exact Nat.zero_add _
  | 1 => exact Nat.zero_add _

theorem outAt_write (R : ℕ) (off : Fin 2 → ℕ) (inb : ∀ a, off a + S8x128.size a ≤ S16384x128.size a) (h : off = ![R, 0])
    (f g : S16384x128.Idx → Elt F .f32) (w : S8x128.Idx → Elt F .f32)
    (hg : ∀ (y : S8x128.Idx) (x : S16384x128.Idx), (x 0).val = R + (y 0).val → (x 1).val = (y 1).val → w y = g x) :
    ∀ x ∈ (outAt off inb).view.set, (outAt off inb).view.write (Elt F) f w Finset.univ x = g x := by
  subst h
  intro x hx
  obtain ⟨y, -, rfl⟩ := Finset.mem_map.mp hx
  have e := congrFun (View.read_write_univ (v := (outAt ![R, 0] inb).view) (Val := Elt F) f w) y
  rw [View.read_apply] at e
  refine ((cast_eq _ _).symm.trans e).trans (hg y _ ?_ ?_)
  · exact ValueKit.rect_emb_unit_val _ _ _ _ 0
  · exact (ValueKit.rect_emb_unit_val _ _ _ _ 1).trans (Nat.zero_add _)

end Cert.Proof.Sc

end
-- ==== Proof.Copies.lean ====
/-
  The pieces of a slot, each from what it holds to what it leaves: copies in flight carry the values that they deliver.
-/
module

public import proofs.«01_k».proof.Proof.Spec

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## A copy in flight, carrying something along -/

/-- What is held beside a copy in flight may be delivered with it. -/
theorem flight_carry {c : Thread nD τ} {sm : SemLoc sig} {N : ℕ} {D X : sProp 𝕄} :
    iprop(Transfers.Flight countersEmb c sm (default : HIx 1) N D ∗ X) ⊢ (Transfers.Flight countersEmb c sm (default : HIx 1) N iprop(D ∗ X) : sProp 𝕄) := by
  unfold Transfers.Flight
  iintro ⟨⟨⟨%R, HR, %hcap, %hpeek⟩, Hcred⟩, HX⟩
  isplitl [HR HX]
  · iexists iprop(R ∗ X)
    isplitl [HR HX]; · isplitl [HR] <;> iassumption
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

variable (d : Fin nD) (i : grid1.Coords)
variable (T : S800000x128.Idx → Elt F .f32) (Lst : S131072.Idx → Elt F .i32) (G : S16384x16.Idx → Elt F .f32)
variable (fi : S4096.Idx → Elt F .i32) (O0 : S16384x128.Idx → Elt F .f32)
variable (sT sL sG : Fin 8 → PosShare TreeShare)
variable (O : CellTallies nD τ sig (HIx 1)) (W : Waits sig (HIx 1))

/-- The vector subcore of grid point `i`. -/
abbrev vt : Thread nD τ := V d (cV i) (jV i)

/-- The first batch row of the subcore's 512. -/
def base : ℕ := 1024 * (i 1).val + 512 * (i 0).val

theorem base_le : base i + 512 ≤ 16384 := by
  have h1 : (i 1).val < 16 := (i 1).isLt
  have h0 : (i 0).val < 2 := (i 0).isLt
  unfold base; omega

/-- What the subcore owes, and only waits of its own copies beyond `W`. -/
def owe : sProp 𝕄 := iprop(∃ W', ⌜∀ p ∈ W', p ∈ W ∨ p.2 = none⌝ ∗ owes (vt d i) O W')

/-! ## What is in flight, and what is idle -/

def rowsGot (q : Fin 8) (R : ℕ) : sProp 𝕄 :=
  iprop(∃ f : Buf (Elt F) ((rM q).view.loc (vt d i)), ⌜(rM q).view.read (Elt F) f = gathered T Lst R⌝ ∗ ((rM q).view.loc (vt d i) ↦{fullShare} f))
def gatesGot (q : Fin 8) (R : ℕ) : sProp 𝕄 :=
  iprop(∃ f : Buf (Elt F) ((gM q).view.loc (vt d i)), ⌜(gM q).view.read (Elt F) f = gateRows G R⌝ ∗ ((gM q).view.loc (vt d i) ↦{fullShare} f))
def tblSh (q : Fin 8) : sProp 𝕄 := iprop(tblM.view.loc (vt d i) ↦{sT q} T)
def lstSh (q : Fin 8) : sProp 𝕄 := iprop(lstM.view.loc (vt d i) ↦{sL q} fi)
def gatSh (q : Fin 8) : sProp 𝕄 := iprop(gatM.view.loc (vt d i) ↦{sG q} G)
def rowsAny (q : Fin 8) : sProp 𝕄 := iprop(∃ f : Buf (Elt F) ((rM q).view.loc (vt d i)), ((rM q).view.loc (vt d i) ↦{fullShare} f))
def gatesAny (q : Fin 8) : sProp 𝕄 := iprop(∃ f : Buf (Elt F) ((gM q).view.loc (vt d i)), ((gM q).view.loc (vt d i) ↦{fullShare} f))
def outAny (p : Fin 2) : sProp 𝕄 := iprop(∃ f : Buf (Elt F) ((oM p).view.loc (vt d i)), ((oM p).view.loc (vt d i) ↦{fullShare} f))
def semR (q : Fin 8) : sProp 𝕄 := semVal (vt d i, SemLoc.dma (rS q).sem) 0
def semG (q : Fin 8) : sProp 𝕄 := semVal (vt d i, SemLoc.dma (gS q).sem) 0
def semO (p : Fin 2) : sProp 𝕄 := semVal (vt d i, SemLoc.dma (oS p).sem) 0
/-- Rows `lo ≤ · < hi` of the result, at contents `f`. -/
def outRows (lo hi : ℕ) (f : S16384x128.Idx → Elt F .f32) : sProp 𝕄 := iprop(outM.view.loc (vt d i) ↦[rowsSet lo hi]{fullShare} f)

def flyR (q : Fin 8) (R : ℕ) : sProp 𝕄 :=
  Transfers.Flight countersEmb (vt d i) (.dma (rS q).sem) (default : HIx 1) (rM q).view.dmaCredit
    iprop(rowsGot d i T Lst q R ∗ tblSh d i T sT q ∗ lstSh d i fi sL q)
def flyG (q : Fin 8) (R : ℕ) : sProp 𝕄 :=
  Transfers.Flight countersEmb (vt d i) (.dma (gS q).sem) (default : HIx 1) (gM q).view.dmaCredit
    iprop(gatesGot d i G q R ∗ gatSh d i G sG q)
def flyO (p : Fin 2) (R : ℕ) : sProp 𝕄 :=
  Transfers.Flight countersEmb (vt d i) (.dma (oS p).sem) (default : HIx 1) (oM 0).view.dmaCredit
    iprop(outRows d i R (R + 8) (comb T Lst G) ∗ outAny (F := F) d i p)

/-! ## The buffers are whole -/

theorem rM_set : ∀ q, (rM q).view.set = Finset.univ := fun q => match q with
  | 0 => View.set_whole _ | 1 => View.set_whole _ | 2 => View.set_whole _ | 3 => View.set_whole _
  | 4 => View.set_whole _ | 5 => View.set_whole _ | 6 => View.set_whole _ | 7 => View.set_whole _
theorem gM_set : ∀ q, (gM q).view.set = Finset.univ := fun q => match q with
  | 0 => View.set_whole _ | 1 => View.set_whole _ | 2 => View.set_whole _ | 3 => View.set_whole _
  | 4 => View.set_whole _ | 5 => View.set_whole _ | 6 => View.set_whole _ | 7 => View.set_whole _
theorem oM_set : ∀ p, (oM p).view.set = Finset.univ := fun p => match p with
  | 0 => View.set_whole _ | 1 => View.set_whole _

theorem gM_credit_pos : ∀ q, 0 < (gM q).view.dmaCredit := by decide
theorem rM_credit : ∀ q, ∀ h : S800000x128.Gathers 0 S64x128,
    ∑ j, ((rM q).slice (S64x128.rowRect h.axis' j) (S64x128.stride_rowRect h.axis' j)).view.dmaCredit = (rM q).view.dmaCredit := by decide

/-! ## Starting a slot's copies -/

theorem gathers_rows (c : ℕ) (off : Fin 1 → ℕ) (inb : ∀ a, off a + S64.size a ≤ S4096.size a) (hoff : off = ![64 * c]) (hc : c < 64)
    (hfi : ∀ x : S4096.Idx, fi x = Lst (ix1 (li (8 * base i + (x 0).val)))) (x : S64.Idx) :
    (lstAt off inb).view.read (Elt F) fi x = Lst (ix1 (li (8 * (base i + 8 * c) + (x 0).val))) := by
  have hx : (x 0).val < 64 := (x 0).isLt
  rw [lstAt_read fi (64 * c) off inb hoff x (by omega), hfi]
  show Lst (ix1 (li (8 * base i + (64 * c + (x 0).val)))) = _
  rw [show 8 * base i + (64 * c + (x 0).val) = 8 * (base i + 8 * c) + (x 0).val by ring]

theorem wp_gatherP (hL : ∀ x, (Lst x).toNat < 800000) (hfi : ∀ x : S4096.Idx, fi x = Lst (ix1 (li (8 * base i + (x 0).val))))
    (q : Fin 8) (c : ℕ) (hc : c < 64) (off : Fin 1 → ℕ) (inb : ∀ a, off a + S64.size a ≤ S4096.size a) (hoff : off = ![64 * c]) :
    iprop(rowsAny (F := F) d i q ∗ tblSh d i T sT q ∗ lstSh d i fi sL q ∗ semR (F := F) d i q)
      ⊢ wp (M := 𝕄) frame (wpE (defs₀ (F := F)) 𝒱₀ (vt d i) none) Set.univ (gatherP i q off inb)
          fun _ => flyR d i T Lst fi sT sL q (base i + 8 * c) := by
  have hin : ∀ x, ((lstAt off inb).view.read (Elt F) fi x).toNat < S800000x128.size gathers_S800000x128_S64x128.axis := fun x => by
    rw [gathers_rows i Lst fi c off inb hoff hc hfi x]; exact hL _
  have hpay : SparseCore.gatherPayload gathers_S800000x128_S64x128 ((tblW).view.read (Elt F) T)
      (SparseCore.rows ((lstAt off inb).view.read (Elt F) fi) rfl hin) = gathered T Lst (base i + 8 * c) := by
    funext x
    unfold SparseCore.gatherPayload gathered
    rw [tblW_read]
    refine congrArg T (funext fun a => Fin.ext ?_)
    match a with
    | 0 =>
      refine (congrArg Fin.val (Shape.Gathers.idx_axis gathers_S800000x128_S64x128 _ x)).trans ?_
      have hx : ((S64.rowMajor.symm ((x 0).cast (show 64 = S64.numel from rfl))) 0).val = (x 0).val := by
        rw [← Shape.rowMajor_val_one, Equiv.apply_symm_apply]; rfl
      have h := gathers_rows i Lst fi c off inb hoff hc hfi (S64.rowMajor.symm ((x 0).cast (show 64 = S64.numel from rfl)))
      rw [hx] at h
      refine (congrArg BitVec.toNat h).trans ?_
      exact (Nat.mod_eq_of_lt (hL _)).symm
    | 1 => exact Shape.Gathers.idx_of_ne gathers_S800000x128_S64x128 _ x 1 (by decide)
  unfold rowsAny tblSh lstSh semR
  iintro ⟨⟨%f, Hr⟩, Ht, Hl, Hs⟩
  ihave Ht := (pointsTo_split_subset (q := sT q) (f := T) (S := Finset.univ) (Finset.subset_univ (tblW).view.set)).1 $$ Ht
  icases Ht with ⟨Ht, Htr⟩
  ihave Hl := (pointsTo_split_subset (q := sL q) (f := fi) (S := Finset.univ) (Finset.subset_univ (lstAt off inb).view.set)).1 $$ Hl
  icases Hl with ⟨Hl, Hlr⟩
  ihave Hr := (Entails.of_eq (show ((rM q).view.loc (vt d i) ↦{fullShare} f : sProp 𝕄)
      = ((rM q).view.loc (vt d i) ↦[(rM q).view.set]{fullShare} f) by rw [rM_set])) $$ Hr
  have key := SparseCore.wp_indirectGatherLocal (F := F) (U := UU) (Name := ℕ) (Lvl := ℕ) (defs := defs₀ (F := F)) countersEmb 𝒱₀ (vt d i) none
    (src := tblW) (dst := rM q) (hg := gathers_S800000x128_S64x128) (offs := lstAt off inb) (hn := rfl) (sem := (rS q).sem) (hp := rfl)
    (hsrc := View.wordExact_bits rfl) (he := rfl) (hsp := Or.inl rfl) (hr := gatherP._proof_1) (fs := T) (fd := f) (fo := fi) (q := sT q) (qo := sL q)
    (k := pure) (Q := fun _ => flyR d i T Lst fi sT sL q (base i + 8 * c)) (default : HIx 1)
      (rM q).view.dmaCredit (rM_credit q _) (by decide) hin
  rw [Prog.bind_pure] at key
  unfold gatherP
  iapply key $$ [Hr Ht Hl Hs]
  · isplitl [Ht]; · iexact Ht
    isplitl [Hr]; · iexact Hr
    isplitl [Hl]; · iexact Hl
    iexact Hs
  iintro Hfl
  ihave Hfl := (flight_carry (X := iprop((tblM.view.loc (vt d i) ↦[Finset.univ \ (tblW).view.set]{sT q} T)
      ∗ (lstM.view.loc (vt d i) ↦[Finset.univ \ (lstAt off inb).view.set]{sL q} fi)))) $$ [Hfl Htr Hlr]
  · isplitl [Hfl]; · iexact Hfl
    isplitl [Htr] <;> iassumption
  sl_step
  unfold flyR
  iapply (Transfers.Flight_mono (EC := countersEmb) (c := vt d i) (sm := .dma (rS q).sem) (ι := (default : HIx 1)) ?_) $$ Hfl
  unfold rowsGot tblSh lstSh
  iintro ⟨⟨Hr, Ht, Hl⟩, Htr, Hlr⟩
  isplitl [Hr]
  · iexists _
    isplitr
    swap
    · iapply (Entails.of_eq (show ((rM q).view.loc (vt d i) ↦[(rM q).view.set]{fullShare} _ : sProp 𝕄)
        = ((rM q).view.loc (vt d i) ↦{fullShare} _) by rw [rM_set])); iexact Hr
    · ipureintro; rw [View.read_write_univ, hpay]
  isplitl [Ht Htr]
  · iapply (pointsTo_split_subset (q := sT q) (f := T) (S := Finset.univ) (Finset.subset_univ (tblW).view.set)).2
    isplitl [Ht] <;> iassumption
  · iapply (pointsTo_split_subset (q := sL q) (f := fi) (S := Finset.univ) (Finset.subset_univ (lstAt off inb).view.set)).2
    isplitl [Hl] <;> iassumption

theorem wp_gatesP (q : Fin 8) (R : ℕ) (off : Fin 2 → ℕ) (inb : ∀ a, off a + S8x16.size a ≤ S16384x16.size a) (hoff : off = ![R, 0]) :
    iprop(gatesAny (F := F) d i q ∗ gatSh d i G sG q ∗ semG (F := F) d i q)
      ⊢ wp (M := 𝕄) frame (wpE (defs₀ (F := F)) 𝒱₀ (vt d i) none) Set.univ (gatesP i q off inb)
          fun _ => flyG d i G sG q R := by
  unfold gatesAny gatSh semG
  iintro ⟨⟨%f, Hr⟩, Ht, Hs⟩
  ihave Ht := (pointsTo_split_subset (q := sG q) (f := G) (S := Finset.univ) (Finset.subset_univ (gatAt off inb).view.set)).1 $$ Ht
  icases Ht with ⟨Ht, Htr⟩
  unfold gatesP
  iapply (Transfers.wp_dmaLocal countersEmb 𝒱₀ (vt d i) none (src := gatAt off inb) (dst := gM q) (fs := G) (fd := f) (q := sG q) (sm := .dma (gS q).sem)
    (k := Prog.ret) (default : HIx 1) (gM q).view.dmaCredit rfl (gM_credit_pos q) (Finset.subset_univ _)) $$ [Hr Ht Hs]
  · isplitl [Ht]; · iexact Ht
    isplitl [Hr]; · iexact Hr
    iexact Hs
  iintro Hfl
  ihave Hfl := (flight_carry (X := iprop((gatM.view.loc (vt d i) ↦[Finset.univ \ (gatAt off inb).view.set]{sG q} G)))) $$ [Hfl Htr]
  · isplitl [Hfl] <;> iassumption
  sl_step
  unfold flyG
  iapply (Transfers.Flight_mono (EC := countersEmb) (c := vt d i) (sm := .dma (gS q).sem) (ι := (default : HIx 1)) ?_) $$ Hfl
  unfold gatesGot gatSh
  iintro ⟨⟨Hr, Ht⟩, Htr⟩
  isplitl [Hr]
  · iexists _
    isplitr
    swap
    · iexact Hr
    · ipureintro; rw [View.read_write_univ]; exact gatAt_read G R off inb hoff
  · iapply (pointsTo_split_subset (q := sG q) (f := G) (S := Finset.univ) (Finset.subset_univ (gatAt off inb).view.set)).2
    isplitl [Ht] <;> iassumption

/-! ## Waiting for them -/

theorem owe_insert {sm : SemLoc sig} : ∀ {W' : Waits sig (HIx 1)}, (∀ p ∈ W', p ∈ W ∨ p.2 = none) → ∀ p ∈ insert (sm, (default : HIx 1)) W', p ∈ W ∨ p.2 = none :=
  fun h p hp => by
    rcases Finset.mem_insert.mp hp with hp | hp
    · exact .inr (hp ▸ rfl)
    · exact h p hp

theorem wp_waitsP (q : Fin 8) (R : ℕ) (off : Fin 2 → ℕ) (inb : ∀ a, off a + S8x16.size a ≤ S16384x16.size a) :
    iprop(flyR d i T Lst fi sT sL q R ∗ flyG d i G sG q R ∗ owe d i O W ∗ Transfers.MayWaits (vt d i) (default : HIx 1) O)
      ⊢ wp (M := 𝕄) frame (wpE (defs₀ (F := F)) 𝒱₀ (vt d i) none) Set.univ (waitsP i q off inb)
          fun _ => iprop((rowsGot d i T Lst q R ∗ tblSh d i T sT q ∗ lstSh d i fi sL q) ∗ semR d i q
            ∗ (gatesGot d i G q R ∗ gatSh d i G sG q) ∗ semG d i q ∗ owe d i O W) := by
  unfold owe flyR flyG semR semG waitsP
  iintro ⟨HR, HG, ⟨%W', %hW', HO⟩, #Hmw⟩
  rw [SparseCore.waitIndirectGather_bind (c := vt d i)]
  iapply (Transfers.wp_waitLocalO countersEmb 𝒱₀ (vt d i) none (default : HIx 1) (rfl : (rM q).view.dmaCredit = _)) $$ [HR HO]
  · isplitl [HR]; · iexact HR
    isplitl [HO]; · iexact HO
    iapply (Transfers.MayWaits.elim (SemLoc.dma (rS q).sem)) $$ Hmw
  iintro ⟨HR, HsR, HO⟩
  iapply (Transfers.wp_waitLocalO countersEmb 𝒱₀ (vt d i) none (k := Prog.ret) (default : HIx 1) (rfl : (gM q).view.dmaCredit = _)) $$ [HG HO]
  · isplitl [HG]; · iexact HG
    isplitl [HO]; · iexact HO
    iapply (Transfers.MayWaits.elim (SemLoc.dma (gS q).sem)) $$ Hmw
  iintro ⟨HG, HsG, HO⟩
  sl_step
  isplitl [HR]; · iexact HR
  isplitl [HsR]; · iexact HsR
  isplitl [HG]; · iexact HG
  isplitl [HsG]; · iexact HsG
  iexists _
  isplitr
  swap; · iexact HO
  ipureintro
  exact owe_insert W (owe_insert W hW')

theorem wp_outWaitP (p : Fin 2) (R : ℕ) (off : Fin 2 → ℕ) (inb : ∀ a, off a + S8x128.size a ≤ S16384x128.size a) :
    iprop(flyO d i T Lst G p R ∗ owe d i O W ∗ Transfers.MayWaits (vt d i) (default : HIx 1) O)
      ⊢ wp (M := 𝕄) frame (wpE (defs₀ (F := F)) 𝒱₀ (vt d i) none) Set.univ (outWaitP i p off inb)
          fun _ => iprop((outRows d i R (R + 8) (comb T Lst G) ∗ outAny d i p) ∗ semO d i p ∗ owe d i O W) := by
  unfold owe flyO semO outWaitP
  iintro ⟨HR, ⟨%W', %hW', HO⟩, #Hmw⟩
  iapply (Transfers.wp_waitLocalO countersEmb 𝒱₀ (vt d i) none (k := Prog.ret) (default : HIx 1) (rfl : (outAt off inb).view.dmaCredit = _)) $$ [HR HO]
  · isplitl [HR]; · iexact HR
    isplitl [HO]; · iexact HO
    iapply (Transfers.MayWaits.elim (SemLoc.dma (oS p).sem)) $$ Hmw
  iintro ⟨HR, HsR, HO⟩
  sl_step
  isplitl [HR]; · iexact HR
  isplitl [HsR]; · iexact HsR
  iexists _
  isplitr
  swap; · iexact HO
  ipureintro
  exact owe_insert W hW'

/-! ## Sending a chunk of results -/

theorem outRows_split (f : S16384x128.Idx → Elt F .f32) {lo mid hi : ℕ} (h : lo ≤ mid) (h' : mid ≤ hi) :
    (outRows d i lo hi f : sProp 𝕄) ⊣⊢ iprop(outRows d i lo mid f ∗ outRows d i mid hi f) := by
  unfold outRows
  rw [← rowsSet_sdiff_left h h']
  exact pointsTo_split_subset (rowsSet_subset (le_refl _) h')

theorem wp_outP (p : Fin 2) (R : ℕ) (hR : R + 8 ≤ 16384) (off : Fin 2 → ℕ) (inb : ∀ a, off a + S8x128.size a ≤ S16384x128.size a) (hoff : off = ![R, 0])
    (f : Buf (Elt F) ((oM p).view.loc (vt d i))) (hf : (oM p).view.read (Elt F) f = rowVal (gathered T Lst R) (gateRows G R)) :
    iprop(((oM p).view.loc (vt d i) ↦{fullShare} f) ∗ outRows d i R (R + 8) O0 ∗ semO d i p)
      ⊢ wp (M := 𝕄) frame (wpE (defs₀ (F := F)) 𝒱₀ (vt d i) none) Set.univ (outP i p off inb)
          fun _ => flyO d i T Lst G p R := by
  have hset := outAt_set R off inb hoff
  have hw : ∀ (y : S8x128.Idx) (x : S16384x128.Idx), (x 0).val = R + (y 0).val → (x 1).val = (y 1).val →
      (oM p).view.read (Elt F) f y = comb T Lst G x := fun y x h0 h1 => by rw [hf, rowVal_chunk T Lst G R hR y x h0 h1]
  unfold outRows semO
  iintro ⟨Hr, Ht, Hs⟩
  unfold outP
  ihave Hr := (Entails.of_eq (show ((oM p).view.loc (vt d i) ↦{fullShare} f : sProp 𝕄)
      = ((oM p).view.loc (vt d i) ↦[(oM p).view.set]{fullShare} f) by rw [oM_set])) $$ Hr
  iapply (Transfers.wp_dmaLocal countersEmb 𝒱₀ (vt d i) none (src := oM p) (dst := outAt off inb) (fs := f) (fd := O0) (q := fullShare) (sm := .dma (oS p).sem)
    (k := Prog.ret) (Sd := rowsSet R (R + 8)) (default : HIx 1) (oM 0).view.dmaCredit rfl (by decide) (subset_of_eq hset)) $$ [Hr Ht Hs]
  · isplitl [Hr]; · iexact Hr
    isplitl [Ht]; · iexact Ht
    iexact Hs
  iintro Hfl
  sl_step
  unfold flyO
  iapply (Transfers.Flight_mono (EC := countersEmb) (c := vt d i) (sm := .dma (oS p).sem) (ι := (default : HIx 1)) ?_) $$ Hfl
  unfold outRows outAny
  iintro ⟨Ht, Hr⟩
  isplitl [Ht]
  · iapply (Entails.of_eq (pointsTo_congr (fun x hx => outAt_write R off inb hoff O0 (comb T Lst G) _ hw x (hset ▸ hx)))) $$ Ht
  · iexists f
    iapply (Entails.of_eq (show ((oM p).view.loc (vt d i) ↦[(oM p).view.set]{fullShare} f : sProp 𝕄)
        = ((oM p).view.loc (vt d i) ↦{fullShare} f) by rw [oM_set])); iexact Hr

end Cert.Proof.Sc

end
-- ==== Proof.Ring.lean ====
/-
  The ring of eight slots: what is in flight before chunk `k`, that a slot's text takes it from `k` to `k + 1`, and the whole
  task of a vector subcore.
-/
module

public import proofs.«01_k».proof.Proof.Copies

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The conditions and the places, by slot -/

theorem cP_iff : ∀ (q : Fin 8) (t : Trip), cP q t = 1#1 ↔ 2 ≤ 8 * t.val + q.val := by decide +kernel
theorem cL_iff : ∀ (q : Fin 8) (t : Trip), cL q t = 1#1 ↔ 8 * t.val + q.val + 8 < 64 := by decide +kernel
theorem trip_lt (t : Trip) : t.val < 8 := t.isLt

theorem fL_eq : ∀ (q : Fin 8) (t : Trip), fL q t = ![64 * (8 * t.val + q.val + 8)]
  | 0, t => (k1_off24_eq t).trans (congrArg (fun n => ![n]) (by show _ = 64 * (8 * t.val + 0 + 8); ring))
  | 1, t => (k1_off44_eq t).trans (congrArg (fun n => ![n]) (by show _ = 64 * (8 * t.val + 1 + 8); ring))
  | 2, t => (k1_off64_eq t).trans (congrArg (fun n => ![n]) (by show _ = 64 * (8 * t.val + 2 + 8); ring))
  | 3, t => (k1_off84_eq t).trans (congrArg (fun n => ![n]) (by show _ = 64 * (8 * t.val + 3 + 8); ring))
  | 4, t => (k1_off104_eq t).trans (congrArg (fun n => ![n]) (by show _ = 64 * (8 * t.val + 4 + 8); ring))
  | 5, t => (k1_off124_eq t).trans (congrArg (fun n => ![n]) (by show _ = 64 * (8 * t.val + 5 + 8); ring))
  | 6, t => (k1_off144_eq t).trans (congrArg (fun n => ![n]) (by show _ = 64 * (8 * t.val + 6 + 8); ring))
  | 7, t => (k1_off164_eq t).trans (congrArg (fun n => ![n]) (by show _ = 64 * (8 * t.val + 7 + 8); ring))

theorem fG_eq : ∀ (q : Fin 8) (i : grid1.Coords) (t : Trip), fG q i t = ![base i + 8 * (8 * t.val + q.val + 8), 0]
  | 0, i, t => (k1_off25_eq i t).trans (congrArg (fun n => ![n, 0]) (by show _ = base i + 8 * (8 * t.val + 0 + 8); unfold base; ring))
  | 1, i, t => (k1_off45_eq i t).trans (congrArg (fun n => ![n, 0]) (by show _ = base i + 8 * (8 * t.val + 1 + 8); unfold base; ring))
  | 2, i, t => (k1_off65_eq i t).trans (congrArg (fun n => ![n, 0]) (by show _ = base i + 8 * (8 * t.val + 2 + 8); unfold base; ring))
  | 3, i, t => (k1_off85_eq i t).trans (congrArg (fun n => ![n, 0]) (by show _ = base i + 8 * (8 * t.val + 3 + 8); unfold base; ring))
  | 4, i, t => (k1_off105_eq i t).trans (congrArg (fun n => ![n, 0]) (by show _ = base i + 8 * (8 * t.val + 4 + 8); unfold base; ring))
  | 5, i, t => (k1_off125_eq i t).trans (congrArg (fun n => ![n, 0]) (by show _ = base i + 8 * (8 * t.val + 5 + 8); unfold base; ring))
  | 6, i, t => (k1_off145_eq i t).trans (congrArg (fun n => ![n, 0]) (by show _ = base i + 8 * (8 * t.val + 6 + 8); unfold base; ring))
  | 7, i, t => (k1_off165_eq i t).trans (congrArg (fun n => ![n, 0]) (by show _ = base i + 8 * (8 * t.val + 7 + 8); unfold base; ring))

theorem fO_eq (q : Fin 8) (i : grid1.Coords) (t : Trip) : k1_off23 i t (BitVec.ofNat 32 q.val) = ![base i + 8 * (8 * t.val + q.val), 0] :=
  (k1_off23_eq i t q).trans (congrArg (fun n => ![n, 0]) (by unfold base; ring))

theorem f2_eq (q : Fin 8) (i : grid1.Coords) : k1_off2 i (BitVec.ofNat 32 (8 * q.val)) = ![base i + 8 * q.val, 0] := k1_off2_eq i q

variable (d : Fin nD) (i : grid1.Coords)
variable (T : S800000x128.Idx → Elt F .f32) (Lst : S131072.Idx → Elt F .i32) (G : S16384x16.Idx → Elt F .f32)
variable (fi : S4096.Idx → Elt F .i32) (O0 : S16384x128.Idx → Elt F .f32)
variable (sT sL sG : Fin 8 → PosShare TreeShare)
variable (O : CellTallies nD τ sig (HIx 1)) (W : Waits sig (HIx 1))

/-! ## The state before chunk `k` -/

/-- Slot `q` with nothing in flight. -/
def idleQ (q : Fin 8) : sProp 𝕄 :=
  iprop(rowsAny (F := F) d i q ∗ gatesAny (F := F) d i q ∗ tblSh d i T sT q ∗ lstSh d i fi sL q ∗ gatSh d i G sG q ∗ semR (F := F) d i q ∗ semG (F := F) d i q)

/-- Slot `q` whose next chunk is `c`: the chunk's copies in flight, or nothing past the last chunk. -/
def slotSt (q : Fin 8) (c : ℕ) : sProp 𝕄 :=
  if c < 64 then iprop(flyR d i T Lst fi sT sL q (base i + 8 * c) ∗ flyG d i G sG q (base i + 8 * c)) else idleQ d i T G fi sT sL sG q

/-- The out buffer of parity `p` whose next chunk is `k`: its last chunk in flight, if it has had one. -/
def outSt (p : Fin 2) (k : ℕ) : sProp 𝕄 :=
  if 2 ≤ k then flyO d i T Lst G p (base i + 8 * (k - 2)) else iprop(outAny (F := F) d i p ∗ semO (F := F) d i p)

/-- The rows of the result not in flight: those landed, and those not begun. -/
def regions (k : ℕ) : sProp 𝕄 :=
  iprop(outRows d i (base i) (base i + 8 * (k - 2)) (comb T Lst G) ∗ outRows d i (base i + 8 * k) (base i + 512) O0)

/-- What a wait adds to the landed rows. -/
theorem wp_pOld (q : Fin 8) (t : Trip) (k : ℕ) (hk : k = 8 * t.val + q.val) :
    iprop(outSt d i T Lst G (pr q) k ∗ outRows d i (base i) (base i + 8 * (k - 2)) (comb T Lst G) ∗ owe d i O W ∗ Transfers.MayWaits (vt d i) (default : HIx 1) O)
      ⊢ wp (M := 𝕄) frame (wpE (defs₀ (F := F)) 𝒱₀ (vt d i) none) Set.univ (pOld i t q)
          fun _ => iprop((outAny d i (pr q) ∗ semO d i (pr q)) ∗ outRows d i (base i) (base i + 8 * (k + 1 - 2)) (comb T Lst G) ∗ owe d i O W) := by
  unfold pOld oldP outSt
  by_cases h : 2 ≤ k
  · rw [if_pos h, dif_pos ((cP_iff q t).mpr (hk ▸ h))]
    iintro ⟨HF, Hd, HO, #Hmw⟩
    iapply (wp_wand_r frame)
    isplitl [HF HO]
    · iapply (wp_outWaitP d i T Lst G O W (pr q) (base i + 8 * (k - 2)) _ _) $$ [HF HO]
      isplitl [HF]; · iexact HF
      isplitl [HO]; · iexact HO
      iexact Hmw
    iintro %_ ⟨⟨Hr, Ho⟩, Hs, HO⟩
    isplitl [Ho Hs]; · isplitl [Ho] <;> iassumption
    isplitr [HO]
    swap; · iexact HO
    rw [show base i + 8 * (k + 1 - 2) = base i + 8 * (k - 2) + 8 by omega]
    iapply (outRows_split d i (comb T Lst G) (lo := base i) (mid := base i + 8 * (k - 2)) (hi := base i + 8 * (k - 2) + 8) (by omega) (by omega)).2
    isplitl [Hd] <;> iassumption
  · rw [if_neg h, dif_neg (fun h' => h (hk ▸ (cP_iff q t).mp h'))]
    iintro ⟨HF, Hd, HO, #Hmw⟩
    rw [show k + 1 - 2 = k - 2 by omega]
    sl_step
    isplitl [HF]; · iexact HF
    isplitl [Hd] <;> iassumption

theorem wp_pRefill (hL : ∀ x, (Lst x).toNat < 800000) (hfi : ∀ x : S4096.Idx, fi x = Lst (ix1 (li (8 * base i + (x 0).val))))
    (q : Fin 8) (t : Trip) (k : ℕ) (hk : k = 8 * t.val + q.val) :
    idleQ d i T G fi sT sL sG q
      ⊢ wp (M := 𝕄) frame (wpE (defs₀ (F := F)) 𝒱₀ (vt d i) none) Set.univ (pRefill i t q)
          fun _ => slotSt d i T Lst G fi sT sL sG q (k + 8) := by
  unfold pRefill refillP slotSt
  by_cases h : k + 8 < 64
  · rw [if_pos h, dif_pos ((cL_iff q t).mpr (hk ▸ h))]
    unfold idleQ
    iintro ⟨Hr, Hg, Ht, Hl, HG, HsR, HsG⟩
    rw [wp_bind]
    iapply (wp_wand_r frame)
    isplitl [Hr Ht Hl HsR]
    · iapply (wp_gatherP d i T Lst fi sT sL hL hfi q (k + 8) h _ _ (by rw [fL_eq, hk])) $$ [Hr Ht Hl HsR]
      isplitl [Hr]; · iexact Hr
      isplitl [Ht]; · iexact Ht
      isplitl [Hl] <;> iassumption
    iintro %_ Hfl
    iapply (wp_wand_r frame)
    isplitl [Hg HG HsG]
    · iapply (wp_gatesP d i G sG q (base i + 8 * (k + 8)) _ _ (by rw [fG_eq, hk])) $$ [Hg HG HsG]
      isplitl [Hg]; · iexact Hg
      isplitl [HG] <;> iassumption
    iintro %_ Hfg
    isplitl [Hfl] <;> iassumption
  · rw [if_neg h, dif_neg (fun h' => h (hk ▸ (cL_iff q t).mp h'))]
    iintro H
    sl_step
    iexact H

/-- Slot `q` in trip `t`: the chunk `8 t + q`. -/
theorem wp_slotP (hL : ∀ x, (Lst x).toNat < 800000) (hfi : ∀ x : S4096.Idx, fi x = Lst (ix1 (li (8 * base i + (x 0).val))))
    (q : Fin 8) (t : Trip) (k : ℕ) (hk : k = 8 * t.val + q.val) :
    iprop(slotSt d i T Lst G fi sT sL sG q k ∗ outSt d i T Lst G (pr q) k ∗ regions d i T Lst G O0 k ∗ owe d i O W
        ∗ Transfers.MayWaits (vt d i) (default : HIx 1) O)
      ⊢ wp (M := 𝕄) frame (wpE (defs₀ (F := F)) 𝒱₀ (vt d i) none) Set.univ (slotP i t q)
          fun _ => iprop(slotSt d i T Lst G fi sT sL sG q (k + 8) ∗ outSt d i T Lst G (pr q) (k + 2) ∗ regions d i T Lst G O0 (k + 1) ∗ owe d i O W) := by
  have hq : q.val < 8 := q.isLt
  have ht : t.val < 8 := trip_lt t
  have hb := base_le i
  have hk64 : k < 64 := by omega
  unfold slotP pWait regions
  rw [show slotSt d i T Lst G fi sT sL sG q k
    = iprop(flyR d i T Lst fi sT sL q (base i + 8 * k) ∗ flyG d i G sG q (base i + 8 * k)) from if_pos hk64]
  iintro ⟨⟨HfR, HfG⟩, Hout, ⟨Hdone, Htodo⟩, HO, #Hmw⟩
  rw [wp_bind]
  iapply (wp_wand_r frame)
  isplitl [HfR HfG HO]
  · iapply (wp_waitsP d i T Lst G fi sT sL sG O W q (base i + 8 * k) _ _) $$ [HfR HfG HO]
    isplitl [HfR]; · iexact HfR
    isplitl [HfG]; · iexact HfG
    isplitl [HO]; · iexact HO
    iexact Hmw
  iintro %_ ⟨⟨Hrows, Ht, Hl⟩, HsR, ⟨Hgates, HG⟩, HsG, HO⟩
  rw [wp_bind]
  iapply (wp_wand_r frame)
  isplitl [Hout Hdone HO]
  · iapply (wp_pOld d i T Lst G O W q t k hk) $$ [Hout Hdone HO]
    isplitl [Hout]; · iexact Hout
    isplitl [Hdone]; · iexact Hdone
    isplitl [HO]; · iexact HO
    iexact Hmw
  iintro %_ ⟨⟨Hob, HsO⟩, Hdone, HO⟩
  unfold rowsGot gatesGot outAny
  icases Hrows with ⟨%fr, %hfr, Hrows⟩
  icases Hgates with ⟨%fg, %hfg, Hgates⟩
  icases Hob with ⟨%fo, Hob⟩
  rw [wp_bind]
  iapply (wp_wand_r frame)
  isplitl [Hrows Hgates Hob]
  · unfold pRow
    iapply (wp_rowLoop d i (rM q) (rMw q) (gM q) (gMw q) (oM (pr q)) (oMw (pr q)) fr fg fo) $$ [Hrows Hgates Hob]
    isplitl [Hrows]; · iexact Hrows
    isplitl [Hgates] <;> iassumption
  iintro %_ ⟨Hrows, Hgates, %f, %hf, Hob⟩
  rw [hfr, hfg] at hf
  ihave Htodo := (outRows_split d i O0 (lo := base i + 8 * k) (mid := base i + 8 * k + 8) (hi := base i + 512) (by omega) (by omega)).1 $$ Htodo
  icases Htodo with ⟨Hnow, Htodo⟩
  rw [wp_bind]
  iapply (wp_wand_r frame)
  isplitl [Hob Hnow HsO]
  · unfold pOut
    iapply (wp_outP d i T Lst G O0 (pr q) (base i + 8 * k) (by omega) _ _ (by rw [fO_eq, hk]) f hf) $$ [Hob Hnow HsO]
    isplitl [Hob]; · iexact Hob
    isplitl [Hnow] <;> iassumption
  iintro %_ HfO
  iapply (wp_wand_r frame)
  isplitl [Hrows Hgates Ht Hl HG HsR HsG]
  · iapply (wp_pRefill d i T Lst G fi sT sL sG hL hfi q t k hk) $$ [Hrows Hgates Ht Hl HG HsR HsG]
    unfold idleQ rowsAny gatesAny
    isplitl [Hrows]; · iexists fr; iexact Hrows
    isplitl [Hgates]; · iexists fg; iexact Hgates
    isplitl [Ht]; · iexact Ht
    isplitl [Hl]; · iexact Hl
    isplitl [HG]; · iexact HG
    isplitl [HsR] <;> iassumption
  iintro %_ Hslot
  isplitl [Hslot]; · iexact Hslot
  isplitl [HfO]
  · unfold outSt
    rw [if_pos (show 2 ≤ k + 2 by omega), Nat.add_sub_cancel]
    iexact HfO
  isplitl [Hdone Htodo]
  · isplitl [Hdone]; · iexact Hdone
    rw [show base i + 8 * (k + 1) = base i + 8 * k + 8 by ring]
    iexact Htodo
  iexact HO

end Cert.Proof.Sc

end
-- ==== Proof.Task.lean ====
/-
  The whole task of a vector subcore: fetch the list, start the eight slots, run the eight trips, wait for the last two
  copies. It holds shares of the list, the gates and the table, and its 512 rows of the result.
-/
module

public import proofs.«01_k».proof.Proof.Ring

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- A separating conjunction over eight slots, written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    BI.bigSep_insert (by decide), BI.bigSep_insert (by decide), BI.bigSep_insert (by decide), BI.bigSep_insert (by decide),
    BI.bigSep_insert (by decide), BI.bigSep_insert (by decide), BI.bigSep_insert (by decide), BI.bigSep_singleton]
  rfl

variable (d : Fin nD) (i : grid1.Coords)
variable (T : S800000x128.Idx → Elt F .f32) (Lst : S131072.Idx → Elt F .i32) (G : S16384x16.Idx → Elt F .f32)
variable (fi : S4096.Idx → Elt F .i32) (O0 : S16384x128.Idx → Elt F .f32)
variable (sT sL sG : Fin 8 → PosShare TreeShare)
variable (O : CellTallies nD τ sig (HIx 1)) (W : Waits sig (HIx 1))

/-! ## One trip -/

/-- A slot's text at the head of a program. -/
theorem slot_then (hL : ∀ x, (Lst x).toNat < 800000) (hfi : ∀ x : S4096.Idx, fi x = Lst (ix1 (li (8 * base i + (x 0).val))))
    (q : Fin 8) (t : Trip) (k : ℕ) (hk : k = 8 * t.val + q.val) (rest : PUnit → TProg F i Unit) (Q : Unit → sProp 𝕄) :
    iprop(slotSt d i T Lst G fi sT sL sG q k ∗ outSt d i T Lst G (pr q) k ∗ regions d i T Lst G O0 k ∗ owe d i O W
        ∗ Transfers.MayWaits (vt d i) (default : HIx 1) O)
      ⊢ iprop((iprop(slotSt d i T Lst G fi sT sL sG q (k + 8) ∗ outSt d i T Lst G (pr q) (k + 2) ∗ regions d i T Lst G O0 (k + 1) ∗ owe d i O W)
            -∗ wp (M := 𝕄) frame (wpE (defs₀ (F := F)) 𝒱₀ (vt d i) none) Set.univ (rest ⟨⟩) Q)
          -∗ wp (M := 𝕄) frame (wpE (defs₀ (F := F)) 𝒱₀ (vt d i) none) Set.univ (slotP i t q >>= rest) Q) := by
  iintro H Hk
  rw [wp_bind]
  iapply (wp_wand_r frame)
  isplitl [H]
  · iapply (wp_slotP d i T Lst G fi O0 sT sL sG O W hL hfi q t k hk) $$ H
  iintro %_ H
  iapply Hk $$ H

/-- What the ring holds before trip `t`: before chunk `8 t`. -/
def ringSt (t : ℕ) : sProp 𝕄 :=
  iprop((slotSt d i T Lst G fi sT sL sG 0 (8 * t + 0) ∗ slotSt d i T Lst G fi sT sL sG 1 (8 * t + 1)
      ∗ slotSt d i T Lst G fi sT sL sG 2 (8 * t + 2) ∗ slotSt d i T Lst G fi sT sL sG 3 (8 * t + 3)
      ∗ slotSt d i T Lst G fi sT sL sG 4 (8 * t + 4) ∗ slotSt d i T Lst G fi sT sL sG 5 (8 * t + 5)
      ∗ slotSt d i T Lst G fi sT sL sG 6 (8 * t + 6) ∗ slotSt d i T Lst G fi sT sL sG 7 (8 * t + 7))
    ∗ outSt d i T Lst G 0 (8 * t + 0) ∗ outSt d i T Lst G 1 (8 * t + 1) ∗ regions d i T Lst G O0 (8 * t + 0) ∗ owe d i O W)

theorem wp_tripP (hL : ∀ x, (Lst x).toNat < 800000) (hfi : ∀ x : S4096.Idx, fi x = Lst (ix1 (li (8 * base i + (x 0).val)))) (t : Trip) :
    iprop(ringSt d i T Lst G fi O0 sT sL sG O W t.val ∗ Transfers.MayWaits (vt d i) (default : HIx 1) O)
      ⊢ wp (M := 𝕄) frame (wpE (defs₀ (F := F)) 𝒱₀ (vt d i) none) Set.univ (tripP i t)
          fun _ => iprop(ringSt d i T Lst G fi O0 sT sL sG O W (t.val + 1)) := by
  unfold ringSt tripP
  rw [show 8 * (t.val + 1) = 8 * t.val + 8 by ring]
  iintro ⟨⟨⟨H0, H1, H2, H3, H4, H5, H6, H7⟩, Ho0, Ho1, Hr, HO⟩, #Hmw⟩
  iapply (slot_then d i T Lst G fi O0 sT sL sG O W hL hfi 0 t (8 * t.val + 0) rfl) $$ [H0 Ho0 Hr HO]
  · isplitl [H0]; · iexact H0
    isplitl [Ho0]; · iexact Ho0
    isplitl [Hr]; · iexact Hr
    isplitl [HO]; · iexact HO
    iexact Hmw
  iintro ⟨H0, Ho0, Hr, HO⟩
  iapply (slot_then d i T Lst G fi O0 sT sL sG O W hL hfi 1 t (8 * t.val + 1) rfl) $$ [H1 Ho1 Hr HO]
  · isplitl [H1]; · iexact H1
    isplitl [Ho1]; · iexact Ho1
    isplitl [Hr]; · iexact Hr
    isplitl [HO]; · iexact HO
    iexact Hmw
  iintro ⟨H1, Ho1, Hr, HO⟩
  iapply (slot_then d i T Lst G fi O0 sT sL sG O W hL hfi 2 t (8 * t.val + 2) rfl) $$ [H2 Ho0 Hr HO]
  · isplitl [H2]; · iexact H2
    isplitl [Ho0]; · iexact Ho0
    isplitl [Hr]; · iexact Hr
    isplitl [HO]; · iexact HO
    iexact Hmw
  iintro ⟨H2, Ho0, Hr, HO⟩
  iapply (slot_then d i T Lst G fi O0 sT sL sG O W hL hfi 3 t (8 * t.val + 3) rfl) $$ [H3 Ho1 Hr HO]
  · isplitl [H3]; · iexact H3
    isplitl [Ho1]; · iexact Ho1
    isplitl [Hr]; · iexact Hr
    isplitl [HO]; · iexact HO
    iexact Hmw
  iintro ⟨H3, Ho1, Hr, HO⟩
  iapply (slot_then d i T Lst G fi O0 sT sL sG O W hL hfi 4 t (8 * t.val + 4) rfl) $$ [H4 Ho0 Hr HO]
  · isplitl [H4]; · iexact H4
    isplitl [Ho0]; · iexact Ho0
    isplitl [Hr]; · iexact Hr
    isplitl [HO]; · iexact HO
    iexact Hmw
  iintro ⟨H4, Ho0, Hr, HO⟩
  iapply (slot_then d i T Lst G fi O0 sT sL sG O W hL hfi 5 t (8 * t.val + 5) rfl) $$ [H5 Ho1 Hr HO]
  · isplitl [H5]; · iexact H5
    isplitl [Ho1]; · iexact Ho1
    isplitl [Hr]; · iexact Hr
    isplitl [HO]; · iexact HO
    iexact Hmw
  iintro ⟨H5, Ho1, Hr, HO⟩
  iapply (slot_then d i T Lst G fi O0 sT sL sG O W hL hfi 6 t (8 * t.val + 6) rfl) $$ [H6 Ho0 Hr HO]
  · isplitl [H6]; · iexact H6
    isplitl [Ho0]; · iexact Ho0
    isplitl [Hr]; · iexact Hr
    isplitl [HO]; · iexact HO
    iexact Hmw
  iintro ⟨H6, Ho0, Hr, HO⟩
  iapply (wp_wand_r frame)
  isplitl [H7 Ho1 Hr HO]
  · iapply (wp_slotP d i T Lst G fi O0 sT sL sG O W hL hfi 7 t (8 * t.val + 7) rfl) $$ [H7 Ho1 Hr HO]
    isplitl [H7]; · iexact H7
    isplitl [Ho1]; · iexact Ho1
    isplitl [Hr]; · iexact Hr
    isplitl [HO]; · iexact HO
    iexact Hmw
  iintro %_ ⟨H7, Ho1, Hr, HO⟩
  isplitl [H0 H1 H2 H3 H4 H5 H6 H7]
  · isplitl [H0]; · iexact H0
    isplitl [H1]; · rw [show 8 * t.val + 8 + 1 = 8 * t.val + 1 + 8 by ring]; iexact H1
    isplitl [H2]; · rw [show 8 * t.val + 8 + 2 = 8 * t.val + 2 + 8 by ring]; iexact H2
    isplitl [H3]; · rw [show 8 * t.val + 8 + 3 = 8 * t.val + 3 + 8 by ring]; iexact H3
    isplitl [H4]; · rw [show 8 * t.val + 8 + 4 = 8 * t.val + 4 + 8 by ring]; iexact H4
    isplitl [H5]; · rw [show 8 * t.val + 8 + 5 = 8 * t.val + 5 + 8 by ring]; iexact H5
    isplitl [H6]; · rw [show 8 * t.val + 8 + 6 = 8 * t.val + 6 + 8 by ring]; iexact H6
    rw [show 8 * t.val + 8 + 7 = 8 * t.val + 7 + 8 by ring]; iexact H7
  isplitl [Ho0]; · iexact Ho0
  isplitl [Ho1]; · iexact Ho1
  isplitl [Hr]; · iexact Hr
  iexact HO

/-! ## Starting the ring -/

theorem wp_startP (hL : ∀ x, (Lst x).toNat < 800000) (hfi : ∀ x : S4096.Idx, fi x = Lst (ix1 (li (8 * base i + (x 0).val)))) (q : Fin 8) :
    idleQ d i T G fi sT sL sG q
      ⊢ wp (M := 𝕄) frame (wpE (defs₀ (F := F)) 𝒱₀ (vt d i) none) Set.univ (startP i q)
          fun _ => slotSt d i T Lst G fi sT sL sG q q.val := by
  have hq : q.val < 64 := by have := q.isLt; omega
  unfold startP pFirstL pFirstG slotSt idleQ
  rw [if_pos hq]
  iintro ⟨Hr, Hg, Ht, Hl, HG, HsR, HsG⟩
  rw [wp_bind]
  iapply (wp_wand_r frame)
  isplitl [Hr Ht Hl HsR]
  · iapply (wp_gatherP d i T Lst fi sT sL hL hfi q q.val hq _ _ rfl) $$ [Hr Ht Hl HsR]
    isplitl [Hr]; · iexact Hr
    isplitl [Ht]; · iexact Ht
    isplitl [Hl] <;> iassumption
  iintro %_ Hfl
  iapply (wp_wand_r frame)
  isplitl [Hg HG HsG]
  · iapply (wp_gatesP d i G sG q (base i + 8 * q.val) _ _ (f2_eq q i)) $$ [Hg HG HsG]
    isplitl [Hg]; · iexact Hg
    isplitl [HG] <;> iassumption
  iintro %_ Hfg
  isplitl [Hfl] <;> iassumption

theorem start_then (hL : ∀ x, (Lst x).toNat < 800000) (hfi : ∀ x : S4096.Idx, fi x = Lst (ix1 (li (8 * base i + (x 0).val)))) (q : Fin 8)
    (rest : PUnit → TProg F i PUnit) (Q : PUnit → sProp 𝕄) :
    idleQ d i T G fi sT sL sG q
      ⊢ iprop((slotSt d i T Lst G fi sT sL sG q q.val -∗ wp (M := 𝕄) frame (wpE (defs₀ (F := F)) 𝒱₀ (vt d i) none) Set.univ (rest ⟨⟩) Q)
          -∗ wp (M := 𝕄) frame (wpE (defs₀ (F := F)) 𝒱₀ (vt d i) none) Set.univ (startP i q >>= rest) Q) := by
  iintro H Hk
  rw [wp_bind]
  iapply (wp_wand_r frame)
  isplitl [H]
  · iapply (wp_startP d i T Lst G fi sT sL sG hL hfi q) $$ H
  iintro %_ H
  iapply Hk $$ H

theorem wp_firstP (hL : ∀ x, (Lst x).toNat < 800000) (hfi : ∀ x : S4096.Idx, fi x = Lst (ix1 (li (8 * base i + (x 0).val)))) :
    bigSep Finset.univ (fun q => idleQ d i T G fi sT sL sG q)
      ⊢ wp (M := 𝕄) frame (wpE (defs₀ (F := F)) 𝒱₀ (vt d i) none) Set.univ (firstP i)
          fun _ => iprop(slotSt d i T Lst G fi sT sL sG 0 0 ∗ slotSt d i T Lst G fi sT sL sG 1 1 ∗ slotSt d i T Lst G fi sT sL sG 2 2
            ∗ slotSt d i T Lst G fi sT sL sG 3 3 ∗ slotSt d i T Lst G fi sT sL sG 4 4 ∗ slotSt d i T Lst G fi sT sL sG 5 5
            ∗ slotSt d i T Lst G fi sT sL sG 6 6 ∗ slotSt d i T Lst G fi sT sL sG 7 7) := by
  unfold firstP
  rw [bigSep_eight]
  iintro ⟨H0, H1, H2, H3, H4, H5, H6, H7⟩
  iapply (start_then d i T Lst G fi sT sL sG hL hfi 0) $$ H0
  iintro H0
  iapply (start_then d i T Lst G fi sT sL sG hL hfi 1) $$ H1
  iintro H1
  iapply (start_then d i T Lst G fi sT sL sG hL hfi 2) $$ H2
  iintro H2
  iapply (start_then d i T Lst G fi sT sL sG hL hfi 3) $$ H3
  iintro H3
  iapply (start_then d i T Lst G fi sT sL sG hL hfi 4) $$ H4
  iintro H4
  iapply (start_then d i T Lst G fi sT sL sG hL hfi 5) $$ H5
  iintro H5
  iapply (start_then d i T Lst G fi sT sL sG hL hfi 6) $$ H6
  iintro H6
  iapply (wp_wand_r frame)
  isplitl [H7]
  · iapply (wp_startP d i T Lst G fi sT sL sG hL hfi 7) $$ H7
  iintro %_ H7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## Fetching the list -/

/-- The part of the list a vector subcore fetches: 4096 words, one per row it gathers. -/
def part (x : S4096.Idx) : Elt F .i32 := Lst (ix1 (li (8 * base i + (x 0).val)))

theorem idxAt_read : (idxAt i).view.read (Elt F) Lst = part i Lst := by
  have hb := base_le i
  funext y
  refine (View.read_apply _ _).trans ((cast_eq _ _).trans (congrArg Lst (funext fun a => Fin.ext ?_)))
  refine (ValueKit.rect_emb_unit_val _ _ _ _ a).trans ?_
  have hy0 : (y 0).val < 4096 := (y 0).isLt
  have hoff : k1_off1 i 0 = 8 * base i := by rw [k1_off1_eq]; unfold base; exact (show 8192 * (i 1).val + 4096 * (i 0).val = _ by ring)
  match a with
  | 0 => exact (show k1_off1 i 0 + (y 0).val = (8 * base i + (y 0).val) % 131072 by
      rw [hoff, Nat.mod_eq_of_lt (by omega)])

def semL : sProp 𝕄 := semVal (vt d i, SemLoc.dma cc1_scoped0.sem) 0
def lstAny : sProp 𝕄 := iprop(∃ f : Buf (Elt F) (lstM.view.loc (vt d i)), (lstM.view.loc (vt d i) ↦{fullShare} f))
variable (qs : PosShare TreeShare)
def idxSh : sProp 𝕄 := iprop(idxM.view.loc (vt d i) ↦{qs} Lst)

theorem wp_listP :
    iprop(lstAny (F := F) d i ∗ idxSh d i Lst qs ∗ semL (F := F) d i ∗ owe d i O W ∗ Transfers.MayWaits (vt d i) (default : HIx 1) O)
      ⊢ wp (M := 𝕄) frame (wpE (defs₀ (F := F)) 𝒱₀ (vt d i) none) Set.univ (listP i)
          fun _ => iprop((lstM.view.loc (vt d i) ↦{fullShare} (part i Lst)) ∗ idxSh d i Lst qs ∗ semL d i ∗ owe d i O W) := by
  unfold lstAny idxSh semL owe
  iintro ⟨⟨%f, Hr⟩, Ht, Hs, ⟨%W', %hW', HO⟩, #Hmw⟩
  ihave Ht := (pointsTo_split_subset (q := qs) (f := Lst) (S := Finset.univ) (Finset.subset_univ (idxAt i).view.set)).1 $$ Ht
  icases Ht with ⟨Ht, Htr⟩
  unfold listP
  iapply (Transfers.wp_dmaLocal countersEmb 𝒱₀ (vt d i) none (src := idxAt i) (dst := lstM) (fs := Lst) (fd := f) (q := qs) (sm := .dma cc1_scoped0.sem)
    (default : HIx 1) lstM.view.dmaCredit rfl (by decide) (Finset.subset_univ _)) $$ [Hr Ht Hs]
  · isplitl [Ht]; · iexact Ht
    isplitl [Hr]; · iexact Hr
    iexact Hs
  iintro Hfl
  iapply (Transfers.wp_waitLocalO countersEmb 𝒱₀ (vt d i) none (k := Prog.ret) (default : HIx 1) (rfl : lstM.view.dmaCredit = _)) $$ [Hfl HO]
  · isplitl [Hfl]; · iexact Hfl
    isplitl [HO]; · iexact HO
    iapply (Transfers.MayWaits.elim (SemLoc.dma cc1_scoped0.sem)) $$ Hmw
  iintro ⟨⟨Hr, Ht⟩, Hs, HO⟩
  sl_step
  isplitl [Hr]
  · have h : lstM.view.write (Elt F) f ((ReadAs.same (Val := Elt F)).apply ((idxAt i).view.read (Elt F) Lst)) Finset.univ = part i Lst := by
      refine (View.write_whole_univ _ _ _).trans (idxAt_read i Lst)
    rw [← h]; iexact Hr
  isplitl [Ht Htr]
  · iapply (pointsTo_split_subset (q := qs) (f := Lst) (S := Finset.univ) (Finset.subset_univ (idxAt i).view.set)).2
    isplitl [Ht] <;> iassumption
  isplitl [Hs]; · iexact Hs
  iexists _
  isplitr
  swap; · iexact HO
  ipureintro
  exact owe_insert W hW'

/-! ## The whole task -/

/-- What a vector subcore holds to begin with and again at the end: shares of the three operands, its rows of the
    result, and its own buffers and semaphores. -/
def taskSt (f : S16384x128.Idx → Elt F .f32) : sProp 𝕄 :=
  iprop((idxSh d i Lst qs ∗ (gatM.view.loc (vt d i) ↦{qs} G) ∗ (tblM.view.loc (vt d i) ↦{qs} T) ∗ outRows d i (base i) (base i + 512) f)
    ∗ (lstAny d i ∗ bigSep Finset.univ (fun q => rowsAny (F := F) d i q) ∗ bigSep Finset.univ (fun q => gatesAny (F := F) d i q) ∗ outAny d i 0 ∗ outAny d i 1)
    ∗ (semL d i ∗ bigSep Finset.univ (fun q => semR (F := F) d i q) ∗ bigSep Finset.univ (fun q => semG (F := F) d i q) ∗ semO d i 0 ∗ semO d i 1))

theorem idle_split :
    bigSep Finset.univ (fun q => idleQ d i T G fi sT sL sG q)
      = iprop(bigSep Finset.univ (fun q => rowsAny (F := F) d i q) ∗ bigSep Finset.univ (fun q => gatesAny (F := F) d i q)
        ∗ bigSep Finset.univ (fun q => tblSh d i T sT q) ∗ bigSep Finset.univ (fun q => lstSh d i fi sL q)
        ∗ bigSep Finset.univ (fun q => gatSh d i G sG q)
        ∗ bigSep Finset.univ (fun q => semR (F := F) d i q) ∗ bigSep Finset.univ (fun q => semG (F := F) d i q)) := by
  unfold idleQ
  simp only [BI.bigSep_sep']

theorem outRows_self (lo : ℕ) (f : S16384x128.Idx → Elt F .f32) : outRows d i lo lo f = iprop(emp) := by
  unfold outRows
  rw [rowsSet_self]
  exact pointsTo_empty

theorem idle_of_slots (a b c e g h k l : ℕ) (ha : 64 ≤ a) (hb : 64 ≤ b) (hc : 64 ≤ c) (he : 64 ≤ e) (hg : 64 ≤ g) (hh : 64 ≤ h) (hk : 64 ≤ k) (hl : 64 ≤ l) :
    iprop(slotSt d i T Lst G fi sT sL sG 0 a ∗ slotSt d i T Lst G fi sT sL sG 1 b ∗ slotSt d i T Lst G fi sT sL sG 2 c
      ∗ slotSt d i T Lst G fi sT sL sG 3 e ∗ slotSt d i T Lst G fi sT sL sG 4 g ∗ slotSt d i T Lst G fi sT sL sG 5 h
      ∗ slotSt d i T Lst G fi sT sL sG 6 k ∗ slotSt d i T Lst G fi sT sL sG 7 l)
      = bigSep Finset.univ (fun q => idleQ d i T G fi sT sL sG q) := by
  rw [bigSep_eight]
  unfold slotSt
  rw [if_neg (by omega), if_neg (by omega), if_neg (by omega), if_neg (by omega), if_neg (by omega), if_neg (by omega), if_neg (by omega), if_neg (by omega)]

theorem wp_taskP (hL : ∀ x, (Lst x).toNat < 800000) :
    iprop(taskSt d i T Lst G qs O0 ∗ owe d i O W ∗ Transfers.MayWaits (vt d i) (default : HIx 1) O)
      ⊢ wp (M := 𝕄) frame (wpE (defs₀ (F := F)) 𝒱₀ (vt d i) none) Set.univ (taskP i)
          fun _ => iprop(taskSt d i T Lst G qs (comb T Lst G) ∗ owe d i O W) := by
  unfold taskSt taskP
  iintro ⟨⟨⟨Hi, HG, HT, Hout⟩, ⟨Hl, Hrs, Hgs, Ho0, Ho1⟩, HsL, HsR, HsG, HsO0, HsO1⟩, HO, #Hmw⟩
  rw [wp_bind]
  iapply (wp_wand_r frame)
  isplitl [Hl Hi HsL HO]
  · iapply (wp_listP d i Lst O W qs) $$ [Hl Hi HsL HO]
    isplitl [Hl]; · iexact Hl
    isplitl [Hi]; · iexact Hi
    isplitl [HsL]; · iexact HsL
    isplitl [HO]; · iexact HO
    iexact Hmw
  iintro %_ ⟨Hl, Hi, HsL, HO⟩
  ihave HT := (Transfers.pointsTo_toks_split qs 8) $$ HT
  ihave HG := (Transfers.pointsTo_toks_split qs 8) $$ HG
  ihave Hl := (Transfers.pointsTo_toks_split fullShare 8) $$ Hl
  icases HT with ⟨HTr, HT⟩
  icases HG with ⟨HGr, HG⟩
  icases Hl with ⟨Hlr, Hl⟩
  rw [wp_bind]
  iapply (wp_wand_r frame)
  isplitl [Hrs Hgs HT Hl HG HsR HsG]
  · iapply (wp_firstP d i T Lst G (part i Lst) (Transfers.shareTok qs 8) (Transfers.shareTok fullShare 8) (Transfers.shareTok qs 8) hL (fun _ => rfl)) $$ [Hrs Hgs HT Hl HG HsR HsG]
    rw [idle_split]
    isplitl [Hrs]; · iexact Hrs
    isplitl [Hgs]; · iexact Hgs
    isplitl [HT]; · iexact HT
    isplitl [Hl]; · iexact Hl
    isplitl [HG]; · iexact HG
    isplitl [HsR] <;> iassumption
  iintro %_ Hring
  let I : ℕ → PUnit → sProp 𝕄 := fun t _ =>
    iprop(ringSt d i T Lst G (part i Lst) O0 (Transfers.shareTok qs 8) (Transfers.shareTok fullShare 8) (Transfers.shareTok qs 8) O W t
      ∗ Transfers.MayWaits (vt d i) (default : HIx 1) O)
  have hbody : ∀ (t : Trip) (acc : PUnit), I t.val acc
      ⊢ wp (M := 𝕄) frame (wpE (defs₀ (F := F)) 𝒱₀ (vt d i) none) Set.univ (tripP i t) (I (t.val + 1)) := by
    intro t _
    iintro ⟨H, #Hmw⟩
    iapply (wp_wand_r frame)
    isplitl [H]
    · iapply (wp_tripP d i T Lst G (part i Lst) O0 (Transfers.shareTok qs 8) (Transfers.shareTok fullShare 8) (Transfers.shareTok qs 8) O W hL (fun _ => rfl) t) $$ [H]
      isplitl [H]; · iexact H
      iexact Hmw
    iintro %_ H
    isplitl [H]; · iexact H
    iexact Hmw
  rw [wp_bind]
  iapply (Scf.wp_for (M := 𝕄) frame (wpE (defs₀ (F := F)) 𝒱₀ (vt d i) none) Set.univ _ _ _ k1_t1_ok ⟨⟩ (fun t _ => tripP i t) I hbody)
  isplitl [Hring Ho0 Ho1 HsO0 HsO1 Hout HO]
  · isplitl [Hring Ho0 Ho1 HsO0 HsO1 Hout HO]
    · unfold ringSt
      isplitl [Hring]; · iexact Hring
      isplitl [Ho0 HsO0]
      · unfold outSt; rw [if_neg (by decide)]
        isplitl [Ho0] <;> iassumption
      isplitl [Ho1 HsO1]
      · unfold outSt; rw [if_neg (by decide)]
        isplitl [Ho1] <;> iassumption
      isplitl [Hout]
      · unfold regions
        rw [show base i + 8 * (8 * 0 + 0 - 2) = base i from rfl, outRows_self]
        isplitr [Hout]
        · itrivial
        · iexact Hout
      iexact HO
    iexact Hmw
  iintro %_ ⟨HR, -⟩
  have h8 : k1_t1_loop.trips = 8 := by decide
  unfold ringSt outSt regions
  rw [show (Scf.trips _ _ _) = 8 from h8, idle_of_slots _ _ _ _ _ _ _ _ _ _ _ _ _ _ _ _ _ (by decide) (by decide) (by decide) (by decide) (by decide) (by decide) (by decide) (by decide),
    if_pos (by decide), if_pos (by decide), idle_split, show base i + 8 * (8 * 8 + 0) = base i + 512 from rfl, outRows_self]
  icases HR with ⟨⟨Hrs, Hgs, HT, Hl, HG, HsR, HsG⟩, Hf0, Hf1, ⟨Hd, -⟩, HO⟩
  rw [wp_bind]
  iapply (wp_wand_r frame)
  isplitl [Hf0 HO]
  · unfold lastP
    iapply (wp_outWaitP d i T Lst G O W 0 (base i + 8 * (8 * 8 + 0 - 2))) $$ [Hf0 HO]
    isplitl [Hf0]; · iexact Hf0
    isplitl [HO]; · iexact HO
    iexact Hmw
  iintro %_ ⟨⟨Hr0, Ho0⟩, HsO0, HO⟩
  iapply (wp_wand_r frame)
  isplitl [Hf1 HO]
  · unfold lastP
    iapply (wp_outWaitP d i T Lst G O W 1 (base i + 8 * (8 * 8 + 1 - 2))) $$ [Hf1 HO]
    isplitl [Hf1]; · iexact Hf1
    isplitl [HO]; · iexact HO
    iexact Hmw
  iintro %_ ⟨⟨Hr1, Ho1⟩, HsO1, HO⟩
  isplitr [HO]
  swap; · iexact HO
  isplitl [Hi HG HGr HT HTr Hd Hr0 Hr1]
  · isplitl [Hi]; · iexact Hi
    isplitl [HG HGr]
    · iapply (Transfers.pointsTo_toks_join qs 8)
      isplitl [HGr]; · iexact HGr
      iexact HG
    isplitl [HT HTr]
    · iapply (Transfers.pointsTo_toks_join qs 8)
      isplitl [HTr]; · iexact HTr
      iexact HT
    iapply (outRows_split d i (comb T Lst G) (lo := base i) (mid := base i + 8 * (8 * 8 + 0 - 2)) (hi := base i + 512) (by omega) (by omega)).2
    isplitl [Hd]; · iexact Hd
    iapply (outRows_split d i (comb T Lst G) (lo := base i + 8 * (8 * 8 + 0 - 2)) (mid := base i + 8 * (8 * 8 + 1 - 2)) (hi := base i + 512) (by omega) (by omega)).2
    isplitl [Hr0] <;> iassumption
  isplitl [Hlr Hl Hrs Hgs Ho0 Ho1]
  · isplitl [Hlr Hl]
    · unfold lstAny
      iexists (part i Lst)
      iapply (Transfers.pointsTo_toks_join fullShare 8)
      isplitl [Hlr]; · iexact Hlr
      iexact Hl
    isplitl [Hrs]; · iexact Hrs
    isplitl [Hgs]; · iexact Hgs
    isplitl [Ho0] <;> iassumption
  isplitl [HsL]; · iexact HsL
  isplitl [HsR]; · iexact HsR
  isplitl [HsG]; · iexact HsG
  isplitl [HsO0] <;> iassumption

end Cert.Proof.Sc

end
-- ==== Proof.Tile.lean ====
/-
  The vector subcores' part of the call: what the call hands each of them, that the task proved in Task.lean meets the
  obligation the launch sets, and how a SparseCore's share of the arrays is dealt to its sixteen subcores and collected.
-/
module

public import proofs.«01_k».proof.Proof.Task
public import Idealize.ShloMosaic.Lib.SparseCore.Quiescent

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (i : grid1.Coords)

/-! ## A subcore's own buffers and semaphores -/

/-- The subcore's buffers by their use: the list's, the slots' rows, the slots' gates, the two out buffers. -/
abbrev Own : Type := Fin 1 ⊕ Fin 8 ⊕ Fin 8 ⊕ Fin 2

def bufOf : Own → Ref sig .scVector
  | .inl _ => cc1_scratch0
  | .inr (.inl q) => (rM q).view.ref
  | .inr (.inr (.inl q)) => (gM q).view.ref
  | .inr (.inr (.inr p)) => (oM p).view.ref

def semOf : Own → SemLoc sig
  | .inl _ => .dma cc1_scoped0.sem
  | .inr (.inl q) => .dma (rS q).sem
  | .inr (.inr (.inl q)) => .dma (gS q).sem
  | .inr (.inr (.inr p)) => .dma (oS p).sem

theorem bufOf_inj : Function.Injective bufOf := by decide +kernel
theorem semOf_inj : Function.Injective semOf := by decide +kernel
theorem semOf_scoped : ∀ o, (semOf o).isScoped .scVector = true := by decide +kernel
theorem bufOf_owner (c : Fin τ.nSC) (j : Fin τ.nSub) : ∀ o, ((Proc.scVector c j).devRef (bufOf o)).owner = .proc (Proc.scVector c j)
  | .inl _ => rfl
  | .inr (.inl 0) | .inr (.inl 1) | .inr (.inl 2) | .inr (.inl 3) | .inr (.inl 4) | .inr (.inl 5) | .inr (.inl 6) | .inr (.inl 7) => rfl
  | .inr (.inr (.inl 0)) | .inr (.inr (.inl 1)) | .inr (.inr (.inl 2)) | .inr (.inr (.inl 3)) | .inr (.inr (.inl 4)) | .inr (.inr (.inl 5)) | .inr (.inr (.inl 6)) | .inr (.inr (.inl 7)) => rfl
  | .inr (.inr (.inr 0)) | .inr (.inr (.inr 1)) => rfl

def bufEmb : Own ↪ DevRef τ sig := ⟨fun o => (Proc.scVector (cV i) (jV i)).devRef (bufOf o), fun _ _ h => bufOf_inj (Proc.devRef_injective _ h)⟩
def semEmb : Own ↪ GSem nD τ sig := ⟨fun o => (vt d i, semOf o), fun _ _ h => semOf_inj (Prod.mk.inj h).2⟩

def restBufs : sProp 𝕄 :=
  bigSep (SparseCore.Cfg.ownRefs (τ := τ) (Proc.scVector (cV i) (jV i)) \ Finset.univ.map (bufEmb i)) fun b => iprop(∃ f, ((d, b) : Loc nD τ sig) ↦{fullShare} f)
def restSems : sProp 𝕄 :=
  bigSep (SparseCore.Cfg.ownCells (vt d i) \ Finset.univ.map (semEmb d i)) fun g => semVal g 0

theorem bigSep_own (Φ : Own → sProp 𝕄) :
    bigSep Finset.univ Φ = iprop(Φ (.inl 0) ∗ bigSep Finset.univ (fun q => Φ (.inr (.inl q))) ∗ bigSep Finset.univ (fun q => Φ (.inr (.inr (.inl q))))
      ∗ Φ (.inr (.inr (.inr 0))) ∗ Φ (.inr (.inr (.inr 1)))) := by
  rw [BI.bigSep_univ_sum, BI.bigSep_univ_sum, BI.bigSep_univ_sum, BI.bigSep_univ_of_subsingleton (0 : Fin 1), bigSep_univ_two]
  rfl

theorem ownBufs_eq :
    (SparseCore.Cfg.ownBufs (vt d i) : sProp 𝕄)
      = iprop((lstAny d i ∗ bigSep Finset.univ (fun q => rowsAny (F := F) d i q) ∗ bigSep Finset.univ (fun q => gatesAny (F := F) d i q) ∗ outAny d i 0 ∗ outAny d i 1)
        ∗ restBufs d i) := by
  unfold SparseCore.Cfg.ownBufs restBufs
  refine (SparseCore.bigSep_sdiff_split' (t := Finset.univ.map (bufEmb i)) ?_).trans ?_
  · intro b hb
    obtain ⟨o, -, rfl⟩ := Finset.mem_map.mp hb
    exact SparseCore.Cfg.mem_ownRefs_of_owner (bufOf_owner _ _ o)
  · rw [BI.bigSep_map, bigSep_own]
    rfl

theorem ownSems0_eq :
    (SparseCore.Cfg.ownSems0 (vt d i) : sProp 𝕄)
      = iprop((semL d i ∗ bigSep Finset.univ (fun q => semR (F := F) d i q) ∗ bigSep Finset.univ (fun q => semG (F := F) d i q) ∗ semO d i 0 ∗ semO d i 1)
        ∗ restSems d i) := by
  unfold SparseCore.Cfg.ownSems0 restSems
  refine (SparseCore.bigSep_sdiff_split' (t := Finset.univ.map (semEmb d i)) ?_).trans ?_
  · intro b hb
    obtain ⟨o, -, rfl⟩ := Finset.mem_map.mp hb
    exact SparseCore.Cfg.mem_ownCells.mpr ⟨rfl, semOf_scoped o⟩
  · rw [BI.bigSep_map, bigSep_own]
    rfl

/-! ## What the call carries -/

abbrev iLoc (d : Dev nD) : Loc nD τ sig := (SparseCore.T d).loc main_v10
abbrev gLoc (d : Dev nD) : Loc nD τ sig := (SparseCore.T d).loc main_v1
abbrev tLoc (d : Dev nD) : Loc nD τ sig := (SparseCore.T d).loc main_v11
abbrev oLoc (d : Dev nD) : Loc nD τ sig := (SparseCore.T d).loc main_v12

/-- A SparseCore's share of an operand, and a subcore's share of that. -/
def coreSh (c : Fin 2) : PosShare TreeShare := Transfers.dealOf fullShare Finset.univ c
def tileSh (c : Fin 2) (s : Fin 16) : PosShare TreeShare := Transfers.dealOf (coreSh c) Finset.univ s

/-- The rows of the result that subcore `s` of SparseCore `c` computes, and those of the whole SparseCore. -/
def tileSet (c : Fin 2) (s : Fin 16) : Finset S16384x128.Idx := rowsSet (1024 * s.val + 512 * c.val) (1024 * s.val + 512 * c.val + 512)
def coreSet (c : Fin 2) : Finset S16384x128.Idx := Finset.univ.biUnion (tileSet c)

theorem tileSet_disjoint (c c' : Fin 2) (s s' : Fin 16) (h : c ≠ c' ∨ s ≠ s') : Disjoint (tileSet c s) (tileSet c' s') := by
  refine Finset.disjoint_left.mpr fun x hx hx' => ?_
  have h1 := mem_rowsSet.mp hx
  have h2 := mem_rowsSet.mp hx'
  have := c.isLt; have := c'.isLt
  rcases h with h | h
  · have : c.val ≠ c'.val := fun e => h (Fin.ext e)
    omega
  · have : s.val ≠ s'.val := fun e => h (Fin.ext e)
    omega

theorem coreSet_disjoint : ∀ c ∈ (Finset.univ : Finset (Fin 2)), ∀ c' ∈ (Finset.univ : Finset (Fin 2)), c ≠ c' → Disjoint (coreSet c) (coreSet c') :=
  fun c _ c' _ h => (Finset.disjoint_biUnion_left _ _ _).mpr fun s _ => (Finset.disjoint_biUnion_right _ _ _).mpr fun s' _ => tileSet_disjoint c c' s s' (.inl h)

theorem coreSet_cover : (Finset.univ : Finset (Fin 2)).biUnion coreSet = Finset.univ := by
  refine Finset.eq_univ_iff_forall.mpr fun x => ?_
  have hx : (x 0).val < 16384 := (x 0).isLt
  refine Finset.mem_biUnion.mpr ⟨⟨(x 0).val / 512 % 2, by omega⟩, Finset.mem_univ _, Finset.mem_biUnion.mpr ⟨⟨(x 0).val / 1024, by omega⟩, Finset.mem_univ _, mem_rowsSet.mpr ?_⟩⟩
  show 1024 * ((x 0).val / 1024) + 512 * ((x 0).val / 512 % 2) ≤ (x 0).val ∧ (x 0).val < 1024 * ((x 0).val / 1024) + 512 * ((x 0).val / 512 % 2) + 512
  omega

variable (T : Dev nD → S800000x128.Idx → Elt F .f32) (Lst : Dev nD → S131072.Idx → Elt F .i32) (G : Dev nD → S16384x16.Idx → Elt F .f32)
variable (O0 : Dev nD → S16384x128.Idx → Elt F .f32)

/-- Shares `q` of the list, the gates and the table, and the rows `I` of the result at contents `f`. -/
def hold (d : Dev nD) (q : PosShare TreeShare) (I : Finset S16384x128.Idx) (f : S16384x128.Idx → Elt F .f32) : sProp 𝕄 :=
  iprop((iLoc d ↦{q} Lst d) ∗ (gLoc d ↦{q} G d) ∗ (tLoc d ↦{q} T d) ∗ (oLoc d ↦[I]{fullShare} f))

instance hold_storable (d : Dev nD) (q : PosShare TreeShare) (I : Finset S16384x128.Idx) (f : S16384x128.Idx → Elt F .f32) :
    BI.Storable (upEmb : UEmb _ 𝕄) (hold T Lst G d q I f) := by unfold hold; infer_instance

/-- The one call: each SparseCore takes its shares and its rows of the result, each of its subcores its own, and they
    come back with the rows computed. -/
def P : (K (F := F)).Pay (nD := nD) (Val := Elt F) (Name := ℕ) (U := UU) where
  st := fun q d c => match q with | 0 => hold T Lst G d (coreSh c) (coreSet c) (O0 d)
  dn := fun q d c => match q with | 0 => hold T Lst G d (coreSh c) (coreSet c) (comb (T d) (Lst d) (G d))
  go := fun q d c s => match q with | 0 => hold T Lst G d (tileSh c s) (tileSet c s) (O0 d)
  td := fun q d c s => match q with | 0 => hold T Lst G d (tileSh c s) (tileSet c s) (comb (T d) (Lst d) (G d))
  x := fun _ _ => iprop(emp)

instance P_storable : (P T Lst G O0).IsStorable where
  st q d c := match q with | 0 => hold_storable T Lst G d _ _ _
  dn q d c := match q with | 0 => hold_storable T Lst G d _ _ _
  go q d c s := match q with | 0 => hold_storable T Lst G d _ _ _
  td q d c s := match q with | 0 => hold_storable T Lst G d _ _ _

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => onArgs (cc1__sc_combine_body (F := F) (coordsV c s))) ⟨⟩ c s := rfl

theorem tile_body (hF : (K (F := F)).Facts) (hL : ∀ d x, (Lst d x).toNat < 800000) (O : CellTallies nD τ sig (HIx 1)) (W : Waits sig (HIx 1)) (hO : ∀ g, O g none = 0)
    (q : PosShare TreeShare) :
    iprop(levAts (K (F := F)).L (K (F := F)).lev ∗ emp ∗ hold T Lst G d q (rowsSet (base i) (base i + 512)) (O0 d)
        ∗ scopedBufs (vt d i) ∗ scopedSems0 (vt d i) ∗ owes (vt d i) O W)
      ⊢ wp (M := 𝕄) frame (wpE (defs₀ (F := F)) 𝒱₀ (vt d i) none) Set.univ (taskP (F := F) i)
          fun _ => iprop(hold T Lst G d q (rowsSet (base i) (base i + 512)) (comb (T d) (Lst d) (G d))
            ∗ scopedBufs (vt d i) ∗ scopedSems0 (vt d i)
            ∗ ∃ W', ⌜∀ p ∈ W', p ∈ W ∨ p.2 = none⌝ ∗ owes (vt d i) O W') := by
  rw [(K (F := F)).scopedBufs_V hF d (cV i) (jV i), SparseCore.Cfg.scopedSems0_V (Val := Elt F) d (cV i) (jV i), ownSems0_eq, ownBufs_eq]
  unfold hold
  iintro ⟨#Hlv, -, ⟨Hi, HG, HT, Ho⟩, ⟨Hb, Hbr⟩, ⟨Hs, Hsr⟩, HO⟩
  ihave Hmw := (show levAts (K (F := F)).L (K (F := F)).lev ⊢ Transfers.MayWaits (vt d i) (default : HIx 1) O from
    (K (F := F)).mayWaits_none (thr := vt d i) hO) $$ Hlv
  iapply (wp_wand_r frame)
  isplitl [Hi HG HT Ho Hb Hs HO Hmw]
  · iapply (wp_taskP d i (T d) (Lst d) (G d) (O0 d) O W q (hL d)) $$ [Hi HG HT Ho Hb Hs HO Hmw]
    unfold taskSt idxSh outRows owe
    isplitl [Hi HG HT Ho Hb Hs]
    · isplitl [Hi HG HT Ho]
      · isplitl [Hi]; · iexact Hi
        isplitl [HG]; · iexact HG
        isplitl [HT]; · iexact HT
        iexact Ho
      isplitl [Hb] <;> iassumption
    isplitl [HO]
    · iexists W
      isplitr
      swap; · iexact HO
      ipureintro; exact fun p hp => .inl hp
    iexact Hmw
  iintro %_ H
  unfold taskSt idxSh outRows owe
  icases H with ⟨⟨⟨Hi, HG, HT, Ho⟩, Hb, Hs⟩, HO⟩
  isplitl [Hi HG HT Ho]
  · isplitl [Hi]; · iexact Hi
    isplitl [HG]; · iexact HG
    isplitl [HT]; · iexact HT
    iexact Ho
  isplitl [Hb Hbr]
  · isplitl [Hb] <;> iassumption
  isplitl [Hs Hsr]
  · isplitl [Hs] <;> iassumption
  iexact HO

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hL : ∀ d x, (Lst d x).toNat < 800000) : (K (F := F)).TileObl (D (F := F)) 𝒱 (P T Lst G O0) v₀ 0 := by
  intro d c s O W hO _ _
  simp only [show (P T Lst G O0).ox = fun _ _ => 0 from rfl, add_zero]
  have hci : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [task_eq]
  exact (tile_body d (coordsV ⟨_, hci.1⟩ ⟨_, hci.2⟩) T Lst G O0 hF hL O W hO (tileSh c s)).trans (wp_mono frame _ _ fun _ => obl_post)

/-! ## Dealing and collecting -/

theorem hold_cores (d : Dev nD) (f : S16384x128.Idx → Elt F .f32) :
    hold T Lst G d fullShare Finset.univ f = bigSep Finset.univ fun c : Fin 2 => hold T Lst G d (coreSh c) (coreSet c) f := by
  unfold hold coreSh
  rw [BI.bigSep_sep', BI.bigSep_sep', BI.bigSep_sep', ← Transfers.pointsTo_deal _ Finset.univ_nonempty, ← Transfers.pointsTo_deal _ Finset.univ_nonempty,
    ← Transfers.pointsTo_deal _ Finset.univ_nonempty, ← pointsTo_biUnion Finset.univ (ℓ := oLoc d) coreSet coreSet_disjoint, coreSet_cover]

theorem hold_tiles (d : Dev nD) (c : Fin 2) (f : S16384x128.Idx → Elt F .f32) :
    hold T Lst G d (coreSh c) (coreSet c) f = bigSep Finset.univ fun s : Fin 16 => hold T Lst G d (tileSh c s) (tileSet c s) f := by
  unfold hold tileSh coreSet
  rw [BI.bigSep_sep', BI.bigSep_sep', BI.bigSep_sep', ← Transfers.pointsTo_deal _ Finset.univ_nonempty, ← Transfers.pointsTo_deal _ Finset.univ_nonempty,
    ← Transfers.pointsTo_deal _ Finset.univ_nonempty,
    ← pointsTo_biUnion Finset.univ (ℓ := oLoc d) (tileSet c) (fun s _ s' _ h => tileSet_disjoint c c s s' (.inr h))]

theorem vecSplit : (K (F := F)).VecSplit' (P T Lst G O0) 0 := by
  intro d c
  show hold T Lst G d (coreSh c) (coreSet c) (O0 d) ⊢ |={Set.univ}=> iprop(
      (bigSep Finset.univ fun s : Fin 16 => hold T Lst G d (tileSh c s) (tileSet c s) (O0 d))
      ∗ ((bigSep Finset.univ fun s : Fin 16 => hold T Lst G d (tileSh c s) (tileSet c s) (comb (T d) (Lst d) (G d)))
          -∗ hold T Lst G d (coreSh c) (coreSet c) (comb (T d) (Lst d) (G d))))
  rw [← hold_tiles, ← hold_tiles]
  iintro H; imodintro
  isplitl [H]; · iexact H
  iintro H; iexact H

theorem st0_eq (d : Dev nD) :
    (bigSep Finset.univ fun c : Fin ((K (F := F)).nCore 0) => (P T Lst G O0).st 0 d c) = hold T Lst G d fullShare Finset.univ (O0 d) :=
  (hold_cores T Lst G d (O0 d)).symm
theorem dn0_eq (d : Dev nD) :
    (bigSep Finset.univ fun c : Fin ((K (F := F)).nCore 0) => (P T Lst G O0).dn 0 d c) = hold T Lst G d fullShare Finset.univ (comb (T d) (Lst d) (G d)) :=
  (hold_cores T Lst G d _).symm

end Cert.Proof.Sc

end
-- ==== Proof.Region.lean ====
/-
  The TensorCore's part of the program: the call that computes the gates, as a region of the host program entered with
  every array of the TensorCore at a valuation and left with the gates' array at what the four blocks write. Around
  it the TensorCore owes the SparseCores the call that comes after; what it owes it keeps owing.
-/
module

public import proofs.«01_k».proof.Proof.Tile
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe
open Idealize.ShloMosaic.Pipeline (Dat Cfg Window BodyObligation cellOf)

/-! ## The kernel's run -/

set_option maxHeartbeats 2000000 in
/-- On staging buffers holding a block of states, the weights and the bias, the kernel leaves the block's gates in the
    last one. -/
theorem sound_body (c : Dev nD) (E : Set ℕ) (i : grid0.Coords) (s0 : Fin 2) (s1 s2 : Fin 1) (s3 : Fin 2)
    (X0 : S4096x512.Idx → Elt F .f32) (X1 : S512x8.Idx → Elt F .f32) (X2 : S1x8.Idx → Elt F .f32) (X3 : S4096x16.Idx → Elt F .f32)
    (Q : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare (k0_pay1 X0 X1 X2)) -∗ Q ⟨⟩))
      ⊢ wp frame (wpE (defs₀ (F := F)) 𝒱₀ c none) E
          (cc0__gates_body i (stage0_0 s0) (hstage0_0 s0) (stage0_1 s1) (hstage0_1 s1) (stage0_2 s2) (hstage0_2 s2) (stage0_3 s3) (hstage0_3 s3)) Q := by
  have hz : (![0, 0] : Fin 2 → Nat) = fun _ => 0 := funext fun a => by fin_cases a <;> rfl
  have hr1 : (Memref.whole cc0_stg1_0 : Memref sig .tc _ _ _).view.readAt (Elt F) (Rect.unit (s := S512x8) ![0, 0] S512x8.size
      inb_S512x8_S512x8_0_0).toLoadRect = id := funext (Memref.readAt_unit_zero (Elt F) cc0_stg1_0 hz _)
  have hr2 : (Memref.whole cc0_stg2_0 : Memref sig .tc _ _ _).view.readAt (Elt F) (Rect.unit (s := S1x8) ![0, 0] S1x8.size
      inb_S1x8_S1x8_0_0).toLoadRect = id := funext (Memref.readAt_unit_zero (Elt F) cc0_stg2_0 hz _)
  have hr0 : (Memref.whole cc0_stg0_0 : Memref sig .tc _ _ _).view.readAt (Elt F) (Rect.unit (s := S4096x512) ![0, 0] S4096x512.size
      inb_S4096x512_S4096x512_0_0).toLoadRect = id := funext (Memref.readAt_unit_zero (Elt F) cc0_stg0_0 hz _)
  have hr0' : (Memref.whole cc0_stg0_1 : Memref sig .tc _ _ _).view.readAt (Elt F) (Rect.unit (s := S4096x512) ![0, 0] S4096x512.size
      inb_S4096x512_S4096x512_0_0).toLoadRect = id := funext (Memref.readAt_unit_zero (Elt F) cc0_stg0_1 hz _)
  have hw3 : ∀ f w, (((Memref.whole cc0_stg3_0).access (Rect.unit (s := S4096x16) ![0, 0] S4096x16.size inb_S4096x16_S4096x16_0_0)) :
      View sig .tc _ _ _).write (Elt F) f w Finset.univ = w := Memref.write_access_unit_zero_univ (Elt F) cc0_stg3_0 hz _
  have hw3' : ∀ f w, (((Memref.whole cc0_stg3_1).access (Rect.unit (s := S4096x16) ![0, 0] S4096x16.size inb_S4096x16_S4096x16_0_0)) :
      View sig .tc _ _ _).write (Elt F) f w Finset.univ = w := Memref.write_access_unit_zero_univ (Elt F) cc0_stg3_1 hz _
  fin_cases s0 <;> fin_cases s1 <;> fin_cases s2 <;> fin_cases s3 <;>
  · simp only [owns_whole_eq, cc0__gates_body_eq_skeleton]; unfold cc0__gates_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    subst hf0 hf1 hf2
    sl_steps
    iapply Hk
    first | rw [hr0, hr1, hr2, hw3] | rw [hr0, hr1, hr2, hw3'] | rw [hr0', hr1, hr2, hw3] | rw [hr0', hr1, hr2, hw3']
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    · iexists k0_pay1 f0 f1 f2; isplitr; · ipureintro; rfl
      iexact H3

/-! ## The proof data, at an entry valuation -/

variable (Val : (c : Dev nD) → (b : Ref sig .tc) → Buf (Elt F) ((c : Thread nD τ).loc b))

/-- The block of states of a point, the weights and the bias, as the arrays hold them on entry. -/
abbrev stBlk (c : Dev nD) (t : Fin cfg0.N) : S4096x512.Idx → Elt F .f32 := ((cfg0.win 0).blk t).view.read (Elt F) (Val c main_arg1)
abbrev wBlk (c : Dev nD) (t : Fin cfg0.N) : S512x8.Idx → Elt F .f32 := ((cfg0.win 1).blk t).view.read (Elt F) (Val c main_arg3)
abbrev bBlk (c : Dev nD) (t : Fin cfg0.N) : S1x8.Idx → Elt F .f32 := ((cfg0.win 2).blk t).view.read (Elt F) (Val c main_v0)

/-- What rides along: every scoped buffer the call does not stage. -/
abbrev Φc (c : Dev nD) : sProp 𝕄 := Pipeline.scopedRest (Ix := HIx 1) (Name := ℕ) (U := UU) (Lvl := ℕ) (Val := Elt F) spec0 c

/-- The waits recorded so far are on the lowest level. -/
def low (c : Dev nD) : Set (SemLoc sig × HIx 1) := {p | (K (F := F)).lev ((c : Thread nD τ), p.1) p.2 ≤ 0}

def dat (c : Dev nD) : Dat τ (Elt F) (HIx 1) ℕ UU ℕ cfg0 c where
  A w := Val c (Pipeline.arrRef spec0 w)
  after w t := match w with
    | ⟨0, _⟩ => stBlk Val c t
    | ⟨1, _⟩ => wBlk Val c t
    | ⟨2, _⟩ => bBlk Val c t
    | ⟨3, _⟩ => k0_pay1 (stBlk Val c t) (wBlk Val c t) (bBlk Val c t)
  Φ _ := Φc c
  q _ := fullShare
  owed _ := (K (F := F)).Otc c 0
  recorded _ := low (F := F) c

/-- The call takes no table. -/
abbrev adm : (p : Fin 1) → (pcfgs (F := F) p).Adm := fun q => (cfgs q).toPCfg_adm

def pdats : (p : Fin 1) → (c : Dev nD) → Dat τ (Elt F) (HIx 1) ℕ UU ℕ (Pipeline.pin (pcfgs (F := F)) (adm (F := F)) p) c
  | ⟨0, _⟩ => fun c => dat Val c

theorem before_0 (c : Dev nD) (t : Fin cfg0.N) (x) : (dat Val c).before (0 : Fin 4) t x = stBlk Val c t :=
  ((dat Val c).before_in_eq_fetched 0 rfl (fun _ => rfl) (fun _ _ _ => rfl) (fun _ => rfl) t x).trans rfl
theorem before_1 (c : Dev nD) (t : Fin cfg0.N) (x) : (dat Val c).before (1 : Fin 4) t x = wBlk Val c t :=
  ((dat Val c).before_in_eq_fetched 1 rfl (fun _ => rfl) (fun _ _ _ => rfl) (fun _ => rfl) t x).trans rfl
theorem before_2 (c : Dev nD) (t : Fin cfg0.N) (x) : (dat Val c).before (2 : Fin 4) t x = bBlk Val c t :=
  ((dat Val c).before_in_eq_fetched 2 rfl (fun _ => rfl) (fun _ _ _ => rfl) (fun _ => rfl) t x).trans rfl

theorem body_obligation (c : Dev nD) : BodyObligation (dat Val c) (defs₀ (F := F)) 𝒱₀ none Set.univ := fun t => by
  rw [bigSep_W0, bigSep_W0]
  simp only
  rw [show (dat Val c).Φ t.succ = (dat Val c).Φ t.castSucc from rfl,
    show (dat Val c).owesAt none t.succ = (dat Val c).owesAt none t.castSucc from rfl]
  iintro ⟨HΦ, Ho, ⟨%d0, H0⟩, ⟨%d1, H1⟩, ⟨%d2, H2⟩, ⟨%d3, H3⟩⟩
  rw [before_0 Val c t d0, before_1 Val c t d1, before_2 Val c t d2]
  iapply (sound_body (F := F) c Set.univ (grid0.coords t) (cfg0.slots t 0) (cfg0.slots t 1) (cfg0.slots t 2) (cfg0.slots t 3)
    (stBlk Val c t) (wBlk Val c t) (bBlk Val c t) ((dat Val c).before 3 t d3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The region over the thread state -/

/-- The gates' array after the call. -/
def gatesOut (c : Dev nD) : Buf (Elt F) ((c : Thread nD τ).loc main_v1) := (dat Val c).arrAt 3 cfg0.N

theorem Otc_none (c : Dev nD) (g : GSem nD τ sig) : (K (F := F)).Otc c 0 g none = 0 := by
  by_contra h
  have := SparseCore.Cfg.lev_of_Otc_pos (K := K (F := F)) (Nat.pos_of_ne_zero h)
  simp at this

/-- What the TensorCore owes through the region: the SparseCores' call, its waits so far on the lowest level. -/
def owesTc (c : Dev nD) : sProp 𝕄 :=
  iprop(∃ W, ⌜(K (F := F)).WBelow (c : Thread nD τ) W 0⌝ ∗ owes (c : Thread nD τ) ((K (F := F)).Otc c 0) W)

theorem hwaits (c : Dev nD) :
    (levAts (K (F := F)).L (K (F := F)).lev : sProp 𝕄) ⊢ Pipeline.cellsWaits (Pipeline.pin (pcfgs (F := F)) (adm (F := F))) (pdats Val) none 0 c :=
  Pipeline.cellsWaits_intro _ _ none 0 c fun w s t => (K (F := F)).mayWait_none _ (Otc_none c)

variable (Vp : (c : Dev nD) → (b : Ref sig .tc) → Buf (Elt F) ((c : Thread nD τ).loc b))

set_option backward.isDefEq.respectTransparency.types false in
/-- The call as a region: from every array at `Val` to every array at `Vp`, which has the gates' array at what the call
    writes and agrees with `Val` elsewhere. -/
def reg (hout : ∀ c, Vp c main_v1 = gatesOut Val c) (hne : ∀ c (b : Ref sig .tc), b ≠ main_v1 → Vp c b = Val c b) :
    Pipeline.RegionSeg (pcfgs (F := F)) (adm (F := F)) (pdats Val) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation Val c).loose
  hwaits := hwaits Val
  pre c := iprop(unscopedBufs c (Val c) ∗ owesTc c)
  post c := iprop(unscopedBufs c (Vp c) ∗ owesTc c)
  X _ := BI.emp
  Y _ := BI.emp
  Z c := Pipeline.unscopedRest (Ix := HIx 1) (Name := ℕ) (U := UU) (Lvl := ℕ) spec0 c (Val c)
  hentry c := by
    rw [Pipeline.ownSems0_none]
    have hsplit := Pipeline.arrays_of_unscopedBufs (p := 0) (pcfgs (F := F)) (adm (F := F)) (pdats Val) (launch0).win (launch0).arr_whole c
      ((pdats Val 0 c).share_full fun _ => rfl) (Val c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesTc
      icases HO with ⟨%W, %hW, HO⟩; iexists W; isplitr; · ipureintro; exact fun p hp => Or.inl (hW p hp)
      iexact HO
    isplitr; · iempintro
    iexact Hrest
  hin c := by
    rw [show (pdats Val 0 c).Φ 0 = Φc c from rfl]
    iintro ⟨-, -, Hr⟩; iexact Hr
  hout c := by
    rw [Pipeline.ownSems0_none, show (pdats Val 0 c).Φ (Fin.last _) = Φc c from rfl]
    iintro Hr
    isplitr; · iempintro
    isplitr; · iempintro
    iexact Hr
  hexit c := by
    have hjoin := Pipeline.unscopedBufs_of_arrays (p := 0) (pcfgs (F := F)) (adm (F := F)) (Ix := HIx 1) (Name := ℕ) (U := UU) (Lvl := ℕ) (launch0).win (launch0).arr_whole c
      (pdats Val) ((pdats Val 0 c).share_full fun _ => rfl) (Val c) (Vp c) ((pdats Val 0 c).arrAt · cfg0.N)
      (fun w => by
        fin_cases w
        · exact ((pdats Val 0 c).arrAt_in 0 rfl _).trans (hne c main_arg1 (by decide)).symm
        · exact ((pdats Val 0 c).arrAt_in 1 rfl _).trans (hne c main_arg3 (by decide)).symm
        · exact ((pdats Val 0 c).arrAt_in 2 rfl _).trans (hne c main_v0 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin owesTc
    icases HO with ⟨%W, %hW, HO⟩; iexists W; isplitr; swap; · iexact HO
    ipureintro
    intro p hp
    rcases hW hp with h | ⟨w, s, rfl⟩
    · exact h
    · exact le_rfl

end Cert.Proof.Sc

end
-- ==== Proof.Launch.lean ====
/-
  The whole program's run: the host operations, the region that computes the gates and the SparseCores' call, put
  together on the TensorCore; the launch of the other processors; and what the arrays hold when all have stopped. Stated
  over any float values.
-/
module

public import proofs.«01_k».proof.Proof.Region
public import Idealize.ShloMosaic.Lib.StableHlo.Run

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe

/-! ## The ghost state's parts -/

abbrev EH : Emb UH (MT nD τ sig (HIx 1) (Elt F) ℕ UU ℕ) := embL
abbrev EP : Emb UP (MT nD τ sig (HIx 1) (Elt F) ℕ UU ℕ) := (Emb.inl : Emb UP (UP × Counters)).trans embR

theorem cells_inj : Function.Injective (Pipeline.cellOf (nD := nD) (τ := τ) (Pipeline.pin (pcfgs (F := F)) (adm (F := F)))) := cellOf_inj

/-! ## The host operations -/

/-- Before the gates: the bias as a row. -/
abbrev ops0 : List (HloOp τ sig (Elt F)) :=
  [StableHlo.reshape main_arg4 main_v0 (rfl : (.f32 : EltTy) = .f32) shapeCasts_S8_S1x8]

/-- After them: the list of table rows, `8 * latent_id + n`, and the table as rows. -/
abbrev ops1 : List (HloOp τ sig (Elt F)) :=
  [StableHlo.unary main_arg0 main_v2 (broadcastInDim S16384x1 ![0] bcast_S16384_S16384x1_0 : (⟨S16384, .i32⟩ : BufTy).Contents (Elt F) → (⟨S16384x1, .i32⟩ : BufTy).Contents (Elt F)),
   StableHlo.nullary main_c (constantI S_ 32 8#32),
   StableHlo.unary main_c main_v3 (broadcastInDim S16384x1 ![] bcast_S_S16384x1 : (⟨S_, .i32⟩ : BufTy).Contents (Elt F) → (⟨S16384x1, .i32⟩ : BufTy).Contents (Elt F)),
   StableHlo.binary main_v2 main_v3 main_v4 (muli : (⟨S16384x1, .i32⟩ : BufTy).Contents (Elt F) → (⟨S16384x1, .i32⟩ : BufTy).Contents (Elt F) → (⟨S16384x1, .i32⟩ : BufTy).Contents (Elt F)),
   StableHlo.nullary main_v5 (iotaInDim S8 32 0),
   StableHlo.unary main_v5 main_v6 (broadcastInDim S1x8 ![1] bcast_S8_S1x8_1 : (⟨S8, .i32⟩ : BufTy).Contents (Elt F) → (⟨S1x8, .i32⟩ : BufTy).Contents (Elt F)),
   StableHlo.unary main_v4 main_v7 (broadcastInDim S16384x8 ![0, 1] bcast_S16384x1_S16384x8_0_1 : (⟨S16384x1, .i32⟩ : BufTy).Contents (Elt F) → (⟨S16384x8, .i32⟩ : BufTy).Contents (Elt F)),
   StableHlo.unary main_v6 main_v8 (broadcastInDim S16384x8 ![0, 1] bcast_S1x8_S16384x8_0_1 : (⟨S1x8, .i32⟩ : BufTy).Contents (Elt F) → (⟨S16384x8, .i32⟩ : BufTy).Contents (Elt F)),
   StableHlo.binary main_v7 main_v8 main_v9 (addi : (⟨S16384x8, .i32⟩ : BufTy).Contents (Elt F) → (⟨S16384x8, .i32⟩ : BufTy).Contents (Elt F) → (⟨S16384x8, .i32⟩ : BufTy).Contents (Elt F)),
   StableHlo.reshape main_v9 main_v10 (rfl : (.i32 : EltTy) = .i32) shapeCasts_S16384x8_S131072,
   StableHlo.reshape main_arg2 main_v11 (rfl : (.f32 : EltTy) = .f32) shapeCasts_S100000x8x128_S800000x128]

theorem main_eq (d : Dev nD) : main (F := F) d = StableHlo.seq (ops0 (F := F)) >>= fun _ =>
    SparseCore.liftProg (Prog.lift (.customCall (Pipeline.entry 0) ())) >>= fun _ =>
    StableHlo.seq (ops1 (F := F)) >>= fun _ => sc.run d 0 >>= fun _ => pure ⟨⟩ := by
  simp only [main, StableHlo.seq, bind_assoc, pure_bind]
  rfl

/-! ## The arrays along the run -/

variable (m : (ℓ : Loc nD τ sig) → Buf (Elt F) ℓ) (ρ : Dev nD → PrngReg)

/-- Every array at the launch, after the host operations before the gates, after the gates, and before the SparseCores'
    call. -/
def V0 (d : Dev nD) : Valuation τ sig (Elt F) := fun b => m (d, b)
def V1 (d : Dev nD) : Valuation τ sig (Elt F) := StableHlo.after ops0 (V0 m d)
abbrev V1r (d : Dev nD) (b : Ref sig .tc) : Buf (Elt F) ((d : Thread nD τ).loc b) := V1 m d ((Proc.tc : Proc τ).devRef b)
def V2 (d : Dev nD) : Valuation τ sig (Elt F) :=
  Function.update (V1 m d) ((Proc.tc : Proc τ).devRef main_v1) (gatesOut (V1r m) d)
def V3 (d : Dev nD) : Valuation τ sig (Elt F) := StableHlo.after ops1 (V2 m d)

abbrev rT (b : Ref sig .tc) : DevRef τ sig := (Proc.tc : Proc τ).devRef b

/-- The SparseCores' operands: the table, the list of rows, the gates; and the result's array before. -/
abbrev Tm (d : Dev nD) : S800000x128.Idx → Elt F .f32 := V3 m d (rT main_v11)
abbrev Lm (d : Dev nD) : S131072.Idx → Elt F .i32 := V3 m d (rT main_v10)
abbrev Gm (d : Dev nD) : S16384x16.Idx → Elt F .f32 := V3 m d (rT main_v1)
abbrev Om (d : Dev nD) : S16384x128.Idx → Elt F .f32 := V3 m d (rT main_v12)

abbrev Pm : (K (F := F)).Pay (nD := nD) (Val := Elt F) (Name := ℕ) (U := UU) := P (Tm m) (Lm m) (Gm m) (Om m)

/-- The TensorCore's unscoped references, and those the SparseCores' call takes. -/
def ucRefs : Finset (DevRef τ sig) := (StableHlo.tcRefs τ sig).filter fun b => ¬ b.isScoped
def callRefs : Finset (DevRef τ sig) := {rT main_v10, rT main_v1, rT main_v11, rT main_v12}

theorem unscopedBufs_held (c : Dev nD) (W : Valuation τ sig (Elt F)) :
    (unscopedBufs c (fun b => W (rT b)) : sProp 𝕄) = StableHlo.held (c : Thread nD τ) ucRefs W := by
  unfold unscopedBufs StableHlo.held ucRefs StableHlo.tcRefs
  rw [Finset.filter_map, bigSep_map]
  rfl

theorem callRefs_sub : callRefs ⊆ ucRefs := by decide +kernel

theorem held_call (d : Dev nD) (W : Valuation τ sig (Elt F)) :
    (StableHlo.held (d : Thread nD τ) callRefs W : sProp 𝕄)
      = iprop((iLoc d ↦{fullShare} W (rT main_v10)) ∗ (gLoc d ↦{fullShare} W (rT main_v1)) ∗ (tLoc d ↦{fullShare} W (rT main_v11))
          ∗ (oLoc d ↦{fullShare} W (rT main_v12))) := by
  unfold StableHlo.held callRefs
  rw [SparseCore.bigSep_insert' (by decide), SparseCore.bigSep_insert' (by decide), SparseCore.bigSep_insert' (by decide), bigSep_singleton]

theorem sub_ucRefs (op : HloOp τ sig (Elt F)) (h : op.bufs ⊆ StableHlo.tcRefs τ sig) : op.bufs ⊆ ucRefs := fun b hb => by
  unfold ucRefs
  rw [Finset.mem_filter]
  exact ⟨h hb, by rw [op.no_scoped b hb]; exact Bool.false_ne_true⟩

theorem ops0_in : ∀ op ∈ ops0 (F := F), op.bufs ⊆ ucRefs := by
  intro op h
  simp only [List.mem_cons, List.not_mem_nil, or_false] at h
  subst h
  exact sub_ucRefs _ (StableHlo.reshape_bufs_sub ..)

theorem ops1_in : ∀ op ∈ ops1 (F := F), op.bufs ⊆ ucRefs := by
  intro op h
  simp only [List.mem_cons, List.not_mem_nil, or_false] at h
  rcases h with rfl | rfl | rfl | rfl | rfl | rfl | rfl | rfl | rfl | rfl | rfl <;> refine sub_ucRefs _ ?_
  · exact StableHlo.unary_bufs_sub ..
  · exact StableHlo.nullary_bufs_sub ..
  · exact StableHlo.unary_bufs_sub ..
  · exact StableHlo.binary_bufs_sub ..
  · exact StableHlo.nullary_bufs_sub ..
  · exact StableHlo.unary_bufs_sub ..
  · exact StableHlo.unary_bufs_sub ..
  · exact StableHlo.unary_bufs_sub ..
  · exact StableHlo.binary_bufs_sub ..
  · exact StableHlo.reshape_bufs_sub ..
  · exact StableHlo.reshape_bufs_sub ..

theorem ops0_fresh : ∀ op ∈ ops0 (F := F), op.fresh = ∅ := by
  intro op h
  simp only [List.mem_cons, List.not_mem_nil, or_false] at h
  subst h; rfl
theorem ops1_fresh : ∀ op ∈ ops1 (F := F), op.fresh = ∅ := by
  intro op h
  simp only [List.mem_cons, List.not_mem_nil, or_false] at h
  rcases h with rfl | rfl | rfl | rfl | rfl | rfl | rfl | rfl | rfl | rfl | rfl <;> rfl

/-! ## The launch element of the ghost state -/

def u₀ : UU := (initOf (K (F := F)).hsCells (K (F := F)).hsToks,
  (initOf (Pipeline.cells (Pipeline.pin (pcfgs (F := F)) (adm (F := F))) cells_inj) (Pipeline.launchToks (Pipeline.pin (pcfgs (F := F)) (adm (F := F))) cells_inj), (1 : Counters)))

/-- What the region's staging cells start from, on a device. -/
abbrev Gh (d : Dev nD) : sProp 𝕄 :=
  iprop(Pipeline.cellsGhost (Pipeline.pin (pcfgs (F := F)) (adm (F := F))) EP 0 d ∗ Pipeline.toksInit (Pipeline.pin (pcfgs (F := F)) (adm (F := F))) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) (adm (F := F))) EP cells_inj) $$ HP with ⟨Hg, Ht⟩
  imodintro
  isplitl [HH]; · iexact HH
  isplitl [Hg Ht]
  · ihave Hg := (Entails.of_eq (bigSep_congr (Ψ := fun d => Pipeline.cellsGhost (Pipeline.pin (pcfgs (F := F)) (adm (F := F))) EP 0 d) fun d _ => bigSep_univ_of_subsingleton (0 : Fin 1))) $$ Hg
    ihave Ht := (Entails.of_eq (bigSep_congr (Ψ := fun d => Pipeline.toksInit (Pipeline.pin (pcfgs (F := F)) (adm (F := F))) EP 0 d) fun d _ => bigSep_univ_of_subsingleton (0 : Fin 1))) $$ Ht
    rw [bigSep_sep']
    isplitl [Hg] <;> iassumption
  rw [show (bigSep Finset.univ fun thr : Thread nD τ => bigSep Finset.univ fun q : Fin 1 => (Pm (F := F) m).x q thr) = BI.emp from
    (bigSep_congr fun _ _ => bigSep_univ_of_subsingleton (0 : Fin 1)).trans (bigSep_emp_const _)]
  iempintro

/-! ## @main on the TensorCore -/

theorem V2_out (d : Dev nD) : V2 m d (rT main_v1) = gatesOut (V1r m) d := by unfold V2; exact Function.update_self ..
theorem V2_ne (d : Dev nD) (b : Ref sig .tc) (h : b ≠ main_v1) : V2 m d (rT b) = V1 m d (rT b) := by
  unfold V2; exact Function.update_of_ne (fun e => h (Proc.devRef_injective _ e)) ..

/-- The region, at this program's valuations. -/
abbrev regm := reg (V1r m) (fun d b => V2 m d (rT b)) (V2_out m) (V2_ne m)

/-- What the TensorCore ends holding: the arrays the call does not take, and the call's at their final contents. -/
abbrev FIN (d : Dev nD) : sProp 𝕄 :=
  iprop(StableHlo.held (d : Thread nD τ) (ucRefs \ callRefs) (V3 m d) ∗ (oLoc d ↦{fullShare} comb (Tm m d) (Lm m d) (Gm m d)))

theorem tcSt_eq (d : Dev nD) : ∃ R : sProp 𝕄, (K (F := F)).tcSt EH d 0 = iprop(owesTc d ∗ R) := ⟨_, rfl⟩

theorem region_wp (κ : GSem nD τ sig → ℕ) [∀ e, Nonempty (Elt F e)] (d : Dev nD) (Q : PUnit → sProp 𝕄) :
    iprop((K (F := F)).ctx EH (Pm m) κ ∗ boundary (d : Thread nD τ) ∗ StableHlo.held (d : Thread nD τ) ucRefs (V1 m d) ∗ owesTc d ∗ Gh (F := F) d
        ∗ (iprop(boundary (d : Thread nD τ) ∗ StableHlo.held (d : Thread nD τ) ucRefs (V2 m d) ∗ owesTc d) -∗ Q ⟨⟩))
      ⊢ wp frame (wpE ((K (F := F)).defs (D (F := F))) 𝒱 (SparseCore.T d) none) Set.univ
          (SparseCore.liftProg (Prog.lift (.customCall (Pipeline.entry 0) ()))) Q := by
  refine BIBase.Entails.trans ?_ ((K (F := F)).wp_liftProg (D (F := F)) 𝒱 (SparseCore.T d) Set.univ none _ _)
  refine BIBase.Entails.trans ?_ (Pipeline.RegionSeg.wp (pcfgs (F := F)) (adm (F := F)) (pdats (V1r m)) none cells_inj EP defs₀ 𝒱₀ (K (F := F)).L (K (F := F)).lev
    (regm m) d none (fun _ h => nomatch h) _ Q)
  rw [← unscopedBufs_held, ← unscopedBufs_held]
  iintro ⟨Hctx, Hb, Hh, HO, ⟨Hg, Ht⟩, Hk⟩
  isplitl [Hk]
  · rw [show (regm m).post d = iprop(unscopedBufs d (fun b => V2 m d (rT b)) ∗ owesTc d) from rfl]
    iintro ⟨Hb, Hh, HO⟩
    rw [wp_ret]
    imodintro
    iapply Hk
    isplitl [Hb]; · iexact Hb
    isplitl [Hh] <;> iassumption
  isplitl [Hb]; · iexact Hb
  isplitl [Hh HO]
  · rw [show (regm m).pre d = iprop(unscopedBufs d (V1r m d) ∗ owesTc d) from rfl]
    isplitl [Hh]
    · iexact Hh
    · iexact HO
  isplitl [Hctx]; · iapply (SparseCore.Cfg.ctx_levAts κ); iexact Hctx
  isplitl [Hg] <;> iassumption

theorem hmain (κ : GSem nD τ sig → ℕ) [∀ e, Nonempty (Elt F e)] (d : Dev nD) :
    iprop((K (F := F)).ctx EH (Pm m) κ ∗ (K (F := F)).tcSt EH d 0 ∗ (K (F := F)).tcRes m ρ d ∗ Gh (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_eq (F := F) d
  unfold SparseCore.Cfg.tcRes SparseCore.Cfg.tcEnd
  rw [main_eq, show (unscopedBufs d (fun b => m ((SparseCore.T d).loc b)) : sProp 𝕄) = StableHlo.held (d : Thread nD τ) ucRefs (V0 m d) from unscopedBufs_held d (V0 m d)]
  iintro ⟨#Hctx, Hst, ⟨Hb, Hh, Hts, -⟩, HG⟩
  iapply (StableHlo.wp_seq 𝒱 none Set.univ d ucRefs _ (ops0 (F := F)) ops0_in ops0_fresh (V0 m d)) $$ [Hb Hh]
  · isplitl [Hb] <;> iassumption
  iintro ⟨Hb, Hh⟩
  rw [wp_bind]
  ihave Hst' := (Entails.of_eq hR) $$ Hst
  icases Hst' with ⟨HO, HR⟩
  iapply (region_wp m κ d _)
  isplitr; · iexact Hctx
  isplitl [Hb]; · iexact Hb
  isplitl [Hh]; · iexact Hh
  isplitl [HO]; · iexact HO
  isplitl [HG]; · iexact HG
  iintro ⟨Hb, Hh, HO⟩
  iapply (StableHlo.wp_seq 𝒱 none Set.univ d ucRefs _ (ops1 (F := F)) ops1_in ops1_fresh (V2 m d)) $$ [Hb Hh]
  · isplitl [Hb] <;> iassumption
  rw [show StableHlo.after (ops1 (F := F)) (V2 m d) = V3 m d from rfl]
  iintro ⟨Hb, Hh⟩
  ihave Hh' := (Entails.of_eq (StableHlo.held_sub_split (c := (d : Thread nD τ)) callRefs_sub (V3 m d))) $$ Hh
  icases Hh' with ⟨Hc, Hrest⟩
  ihave Hc' := (Entails.of_eq (held_call d (V3 m d))) $$ Hc
  rw [wp_bind]
  iapply ((K (F := F)).wp_run (D (F := F)) 𝒱 (EH := EH) (P := Pm m) κ d 0) $$ [HO HR Hc' Hb Hts Hrest]
  isplitr; · iexact Hctx
  isplitl [HO HR]
  · iapply (Entails.of_eq hR.symm); isplitl [HO] <;> iassumption
  isplitl [Hc']
  · rw [st0_eq]; unfold hold; iexact Hc'
  iintro ⟨Hst, Hdn⟩
  ihave Hdn' := (Entails.of_eq (dn0_eq (Tm m) (Lm m) (Gm m) (Om m) d)) $$ Hdn
  unfold hold
  icases Hdn' with ⟨-, -, -, Ho⟩
  rw [wp_pure]
  imodintro
  isplitl [Hst]; · iexact Hst
  isplitr [Hb Hts]
  · isplitl [Hrest]; · iexact Hrest
    iexact Ho
  isplitl [Hb] <;> iassumption

/-! ## What the arrays hold at the end -/

theorem SI_held (s' : Phys nD τ sig (Elt F)) (d : Dev nD) (W : Valuation τ sig (Elt F)) (S : Finset (DevRef τ sig)) :
    iprop(SI s' ∗ StableHlo.held (d : Thread nD τ) S W) ⊢ (⌜∀ b ∈ S, s'.mem.mem (d, b) = W b⌝ : sProp 𝕄) := by
  classical
  induction S using Finset.induction_on with
  | empty => iintro -; ipureintro; exact fun b h => absurd h (Finset.notMem_empty b)
  | insert b S hb ih =>
    unfold StableHlo.held at ih ⊢
    rw [SparseCore.bigSep_insert' hb]
    iintro ⟨HSI, Hb, Hr⟩
    ihave H := (persistent_entails_right (SI_pointsTo_agree (st := s') (ℓ := ((d, b) : Loc nD τ sig)) (I := Finset.univ) (q := fullShare) (f := W b))) $$ [HSI Hb]
    · isplitl [HSI] <;> iassumption
    icases H with ⟨%h1, HSI, -⟩
    ihave H := ih $$ [HSI Hr]
    · isplitl [HSI] <;> iassumption
    icases H with %h2
    ipureintro
    intro b' hb'
    rcases Finset.mem_insert.mp hb' with rfl | h
    · exact funext fun i => h1 i (Finset.mem_univ i)
    · exact h2 b' h

def fq (d : Dev nD) (s' : Phys nD τ sig (Elt F)) : Prop :=
  (∀ b ∈ ucRefs \ callRefs, s'.mem.mem (d, b) = V3 m d b) ∧ s'.mem.mem (oLoc d) = comb (Tm m d) (Lm m d) (Gm m d)

theorem hfin (d : Dev nD) (s' : Phys nD τ sig (Elt F)) : iprop(FIN m d ∗ SI s') ⊢ (⌜fq m d s'⌝ : sProp 𝕄) := by
  iintro ⟨⟨Hr, Ho⟩, HSI⟩
  ihave H := (persistent_entails_right (SI_pointsTo_agree (st := s') (ℓ := oLoc d) (I := Finset.univ) (q := fullShare) (f := comb (Tm m d) (Lm m d) (Gm m d)))) $$ [HSI Ho]
  · isplitl [HSI] <;> iassumption
  icases H with ⟨%h1, HSI, -⟩
  ihave H := (SI_held s' d (V3 m d) (ucRefs \ callRefs)) $$ [HSI Hr]
  · isplitl [HSI] <;> iassumption
  icases H with %h2
  ipureintro; exact ⟨h2, funext fun i => h1 i (Finset.mem_univ i)⟩

/-- The launch memory meets the precondition: every latent id names a row of the latent table. -/
def PreOK : Prop := ∀ (d : Dev nD) (j : S16384.Idx), (m ((d : Thread nD τ).loc main_arg0) j : BitVec 32).toNat < 100000

def QC : PUnit × MemSt nD τ sig (Elt F) → Prop := fun r => (∀ c : Dev nD,
    (∀ b ∈ ucRefs \ callRefs, r.2.mem (c, b) = V3 m c b) ∧ r.2.mem (oLoc c) = comb (Tm m c) (Lm m c) (Gm m c)) ∧ r.2.sem = fun _ => 0

theorem run_of [∀ e, Nonempty (Elt F e)] (hL : ∀ d x, (Lm m d x).toNat < 800000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ _ facts hL)
    (fun q _ => match q with | 0 => SparseCore.Cfg.VecSplit.of_plain (vecSplit _ _ _ _))
    m ρ main (fun d => Gh (F := F) d) (FIN m) (u₀ (F := F)) (sep_elim_left.trans (hu₀ m)) (fun κ d => hmain m ρ κ d) (fq m) (hfin m) (QC m) (fun _ h hz => ⟨h, hz⟩)

end Cert.Proof.Sc

end
-- ==== Proof.Arrays.lean ====
/-
  What the arrays hold before the SparseCores' call, read off the host operations: the arguments as they were, the list of
  table rows, the table, the gates; and every listed row lies in the table when the precondition holds.
-/
module

public import proofs.«01_k».proof.Proof.Launch
public import proofs.«01_k».proof.Defs
public import proofs.«01_k».proof.Proof.Gen.Pre_in_range
public import Idealize.ShloMosaic.Lib.ReduceAll
public import Idealize.ShloMosaic.Lib.StableHlo.ReadAt

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

open Idealize.ShloMosaic.TcCoe

variable (m : (ℓ : Loc nD τ sig) → Buf (Elt F) ℓ) (ρ : Dev nD → PrngReg)

/-- The program's arguments. -/
abbrev argRefs : List (Ref sig .tc) := [main_arg0, main_arg1, main_arg2, main_arg3, main_arg4]

theorem V1_arg (d : Dev nD) (b : Ref sig .tc) (hb : b ∈ argRefs) : V1 m d (rT b) = m ((d : Thread nD τ).loc b) := by
  show V1 m d (rT b) = V0 m d (rT b)
  unfold V1
  simp only [List.mem_cons, List.not_mem_nil, or_false] at hb
  rcases hb with rfl | rfl | rfl | rfl | rfl <;> after_results

theorem V2_arg (d : Dev nD) (b : Ref sig .tc) (hb : b ∈ argRefs) : V2 m d (rT b) = m ((d : Thread nD τ).loc b) := by
  rw [V2_ne m d b (by revert b; decide), V1_arg m d b hb]

/-- No host operation writes an argument. -/
theorem V3_arg (d : Dev nD) (b : Ref sig .tc) (hb : b ∈ argRefs) : V3 m d (rT b) = m ((d : Thread nD τ).loc b) := by
  rw [← V2_arg m d b hb]
  unfold V3
  simp only [List.mem_cons, List.not_mem_nil, or_false] at hb
  rcases hb with rfl | rfl | rfl | rfl | rfl <;> after_results

theorem Gm_eq (d : Dev nD) : Gm m d = gatesOut (V1r m) d := by
  show V3 m d (rT main_v1) = _
  rw [← V2_out m d]
  unfold V3
  after_results

/-- The batch row that entry `r` of the list is for; and the latent that row `r` of the table is of. -/
def batchOf (r : Fin 131072) : Fin 16384 := ⟨r.1 / 8, by have := r.2; omega⟩
def latentOf (r : Fin 800000) : Fin 100000 := ⟨r.1 / 8, by have := r.2; omega⟩

/-- The list of rows: entry `r` is `8 * latent_id[r / 8] + r % 8`. -/
theorem Lm_at (d : Dev nD) (r : Fin 131072) :
    Lm m d (ValueIdx.ix1 r) = IntOp.addi (IntOp.muli (m ((d : Thread nD τ).loc main_arg0) (ValueIdx.ix1 (batchOf r))) 8#32) (BitVec.ofNat 32 (r.1 % 8)) := by
  rw [← V2_arg m d main_arg0 (by decide)]
  unfold Lm V3 ops1 rT
  after_reads_at
  rfl

/-- The table as rows: row `r` is row `r % 8` of latent `r / 8`. -/
theorem Tm_at (d : Dev nD) (r : Fin 800000) (g : Fin 128) :
    Tm m d (ValueIdx.ix2 r g) = m ((d : Thread nD τ).loc main_arg2) (ValueIdx.ix3 (latentOf r) ⟨r.1 % 8, Nat.mod_lt _ (by decide)⟩ g) := by
  rw [← V2_arg m d main_arg2 (by decide)]
  unfold Tm V3 ops1 rT
  after_reads_at
  rfl

/-- The launch memory meets the precondition: every listed row is a row of the table. -/
theorem Lm_lt (hpre : PreOK m) (d : Dev nD) (x : S131072.Idx) : (Lm m d x).toNat < 800000 := by
  obtain ⟨r, rfl⟩ : ∃ r : Fin 131072, x = ValueIdx.ix1 r := ⟨x 0, ValueIdx.eq_ix1 x⟩
  rw [Lm_at]
  have h1 := hpre d (ValueIdx.ix1 (batchOf r))
  generalize m ((d : Thread nD τ).loc main_arg0) (ValueIdx.ix1 (batchOf r)) = v at h1 ⊢
  have h2 : r.1 % 8 < 8 := Nat.mod_lt _ (by decide)
  simp only [IntOp.addi, IntOp.muli, BitVec.toNat_add, BitVec.toNat_mul, BitVec.toNat_ofNat]
  omega

theorem args_mem : ∀ b ∈ argRefs, rT b ∈ ucRefs \ callRefs := by decide +kernel

theorem run_main [∀ e, Nonempty (Elt F e)] (hpre : PreOK m) :
    θ_run (Cert.KernelIdeal.defs (F := F)) (Cert.KernelIdeal.threads (F := F)) ⟨m, fun _ => 0, ρ⟩ (fun r => (∀ c : Dev nD,
      (∀ b ∈ argRefs, r.2.mem ((c : Thread nD τ).loc b) = m ((c : Thread nD τ).loc b))
      ∧ r.2.mem ((c : Thread nD τ).loc main_v12) = comb (Tm m c) (Lm m c) (Gm m c)) ∧ r.2.sem = fun _ => 0) :=
  (θ_run Cert.KernelIdeal.defs _ _).mono
    (fun _ h => ⟨fun c => ⟨fun b hb => ((h.1 c).1 (rT b) (args_mem b hb)).trans (V3_arg m c b hb), (h.1 c).2⟩, h.2⟩)
    (run_of m ρ (Lm_lt m hpre))

/-- The precondition gives it: an id that is non-negative as a signed word and below 100000 is its own value. -/
theorem ok_of_fn (x0 : IVec S16384 32) (x1 : FVec F S16384x512 .f32) (x2 : FVec F S100000x8x128 .f32) (x3 : FVec F S512x8 .f32) (x4 : FVec F S8 .f32)
    (h : Cert.Pre_in_range.fn x0 x1 x2 x3 x4 = fun _ => 1#1) (j : S16384.Idx) : (x0 j).toNat < 100000 := by
  have andi_bool (p q : Bool) : IntOp.andi (BitVec.ofBool p) (BitVec.ofBool q) = BitVec.ofBool (p && q) := by
    cases p <;> cases q <;> decide
  have bool_one (p : Bool) : (BitVec.ofBool p = 1#1) ↔ p = true := by cases p <;> decide
  have : Subsingleton Cert.Pre_in_range.S_.Idx := ⟨fun a b => funext fun i => i.elim0⟩
  have e := congrFun h ValueIdx.ix0
  unfold Cert.Pre_in_range.fn at e
  have e := Host.reduce_andi_all _ _ _ _ _ e j
  simp only [andi, cmpi, broadcastInDim, constantI, IntOp.cmpi, andi_bool, bool_one, Bool.and_eq_true, BitVec.sle_eq_decide,
    BitVec.slt_eq_decide, decide_eq_true_eq, BitVec.toInt_eq_toNat_cond, BitVec.toNat_ofNat, Nat.reducePow, Nat.reduceMod] at e
  omega

end Cert.Proof.Sc

end
-- ==== Proof.Frames.lean ====
/-
  The claims that every program runs, leaves its arguments as they were and ends with every semaphore counter at zero. The
  two spellings of the kernel have one text, so one run serves both; the reference is host operations alone.
-/
module

public import proofs.«01_k».proof.Proof.Arrays
public import proofs.«01_k».proof.Proof.Gen.Kernel
public import proofs.«01_k».proof.Proof.Gen.ReferenceIdeal.Run

@[expose] public section

noncomputable section

namespace Cert.Proof.Sc

open Idealize.ShloMosaic Idealize.SL.Sem

open Cert.KernelIdeal in
/-- The kernel's run, read at its arguments and at the counters, for any float values. -/
theorem run_args {F : FTy → Type} [FloatOps F] [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run Cert.KernelIdeal.defs _ _).mono
    (fun _ h => ⟨fun c => ⟨(h.1 c).1 _ (by decide), (h.1 c).1 _ (by decide), (h.1 c).1 _ (by decide), (h.1 c).1 _ (by decide), (h.1 c).1 _ (by decide)⟩, h.2⟩)
    (run_main m ρ hpre)

theorem frame_kernelIdeal : Cert.quiescent_KernelIdeal := fun m ρ hpre =>
  run_args (F := Ideal) m ρ fun d j => ok_of_fn _ _ _ _ _ (hpre d) j

/-! ## The two spellings of the kernel are one program -/

section
variable {F : FTy → Type} [FloatOps F]

theorem bodies_eq : Cert.Kernel.defs₀ (F := F) = Cert.KernelIdeal.defs₀ := by
  funext p l a
  match p, l, a with
  | .tc, 0, (t, s) => rfl
  | .tc, 1, _ => rfl
  | .scScalar c, 0, _ => rfl
  | .scScalar c, 1, _ => rfl
  | .scVector c s, 0, _ => rfl
  | .scVector c s, 1, _ => rfl

theorem defs_eq : Cert.Kernel.defs (F := F) = Cert.KernelIdeal.defs := by
  unfold Cert.Kernel.defs Cert.KernelIdeal.defs
  rw [bodies_eq]
  rfl

theorem threads_eq : Cert.Kernel.threads (F := F) = Cert.KernelIdeal.threads := rfl

end

theorem frame_kernel : Cert.quiescent_Kernel := by
  intro m ρ hpre
  rw [defs_eq, threads_eq]
  exact run_args (F := Bits) m ρ fun d j => ok_of_fn _ _ _ _ _ (hpre d) j

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof.Sc

end
-- ==== Proof.Reference.lean ====
/-
  What the reference computes at an index, over the extended reals: `∑ n, latents[latent_id[b], n, g] * gate[b, n]`.
-/
module

public import proofs.«01_k».proof.Proof.Gen.ReferenceIdeal.Run
public import Idealize.ShloMosaic.Lib.Pointwise

@[expose] public section

noncomputable section

namespace Cert.Proof.Sc

open Cert.ReferenceIdeal Cert.ReferenceIdeal.Gen
open Idealize.ShloMosaic Idealize.SL.Sem
open Idealize.ShloMosaic.TcCoe

/-- The softmax of eight extended reals, as the kernel and the reference both spell it: shifted by the greatest. -/
def soft (l : Fin 8 → EReal) (n : Fin 8) : EReal :=
  Ideal.div (Ideal.exp (l n - Finset.univ.fold max (Ideal.ofBits .f32 4286578688#32) l))
    (∑ k : Fin 8, Ideal.exp (l k - Finset.univ.fold max (Ideal.ofBits .f32 4286578688#32) l))

theorem max_fold (c : EReal) (l : Fin 8 → EReal) : max c (Finset.univ.fold max c l) = Finset.univ.fold max c l :=
  max_eq_right (Finset.le_fold_max c |>.mpr (Or.inl le_rfl))

/-- The reference's take at an index whose word is in range: the table's row of that index. -/
theorem take_at {α : Type} (x : S100000x8x128.Idx → α) (idx : IVec S16384x1 32) (b : Fin 16384) (n : Fin 8) (g : Fin 128)
    (h : (idx (ValueIdx.ix2 b 0)).toNat < 100000) :
    Host.gather gather_S100000x8x128_S16384x1_S16384x8x128_12_0_n_n_0_1_18128 x idx (ValueIdx.ix3 b n g)
      = x (ValueIdx.ix3 ⟨(idx (ValueIdx.ix2 b 0)).toNat, h⟩ n g) := by
  have ht : min (idx (ValueIdx.ix2 b 0)).toInt.toNat 99999 = (idx (ValueIdx.ix2 b 0)).toNat := by
    rw [BitVec.toInt_eq_toNat_cond]; split <;> omega
  unfold Host.gather
  congr 1
  funext a
  refine Fin.ext ?_
  let D := gather_S100000x8x128_S16384x1_S16384x8x128_12_0_n_n_0_1_18128
  show D.start (ValueIdx.ix3 b n g) idx a + D.batchCoord (ValueIdx.ix3 b n g) a + D.offCoord (ValueIdx.ix3 b n g) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ D.startIndexMap from List.mem_singleton.mpr rfl)]
    have hsi : D.siIdx (ValueIdx.ix3 b n g) ⟨List.idxOf (0 : Fin 3) D.startIndexMap, List.idxOf_lt_length_iff.2 (List.mem_singleton.mpr rfl)⟩
        = ValueIdx.ix2 b 0 := by
      funext c; refine Fin.ext ?_
      match c with
      | ⟨0, _⟩ => rfl
      | ⟨1, _⟩ => rfl
    rw [hsi]
    exact ht
  · unfold GatherDims.start
    rw [dif_neg (show (1 : Fin 3) ∉ D.startIndexMap by decide), Nat.zero_add]
    rfl
  · unfold GatherDims.start
    rw [dif_neg (show (2 : Fin 3) ∉ D.startIndexMap by decide), Nat.zero_add]
    rfl

/-- An id in range passes the reference's wrap of negative ids and its mask of ids out of range. -/
theorem wrap_word (v : BitVec 32) (h : v.toNat < 100000) :
    Scalar.select (IntOp.cmpi .slt v 0#32) (IntOp.addi v 100000#32) v = v := by
  have : IntOp.cmpi .slt v 0#32 = 0#1 := by
    simp only [IntOp.cmpi, BitVec.slt_eq_decide, BitVec.toInt_eq_toNat_cond, BitVec.toNat_ofNat, Nat.reducePow, Nat.reduceMod]
    rw [decide_eq_false (by omega)]; rfl
  rw [this]; rfl

theorem mask_word (v : BitVec 32) (h : v.toNat < 100000) :
    IntOp.andi (IntOp.cmpi .sge v 0#32) (IntOp.cmpi .sle v 99999#32) = 1#1 := by
  have h1 : IntOp.cmpi .sge v 0#32 = 1#1 := by
    simp only [IntOp.cmpi, BitVec.sle_eq_decide, BitVec.toInt_eq_toNat_cond, BitVec.toNat_ofNat, Nat.reducePow, Nat.reduceMod]
    rw [decide_eq_true (by omega)]; rfl
  have h2 : IntOp.cmpi .sle v 99999#32 = 1#1 := by
    simp only [IntOp.cmpi, BitVec.sle_eq_decide, BitVec.toInt_eq_toNat_cond, BitVec.toNat_ofNat, Nat.reducePow, Nat.reduceMod]
    rw [decide_eq_true (by omega)]; rfl
  rw [h1, h2]; rfl

/-- The reference's result at an index: the sum over the eight rows of the latent, each times its gate. -/
theorem ref_at (x0 : IVec S16384 32) (x1 : FVec Ideal S16384x512 .f32) (x2 : FVec Ideal S100000x8x128 .f32) (x3 : FVec Ideal S512x8 .f32) (x4 : FVec Ideal S8 .f32)
   (hx : ∀ j, (x0 j).toNat < 100000) (b : Fin 16384) (g : Fin 128) :
     (Host.dotGeneral dot_S16384x8x128_S16384x8_S16384x128_1_1_2_n_0_0 none (select (broadcastInDim S16384x8x128 ![0] bcast_S16384_S16384x8x128_0 (Host.reduce IntOp.andi (andi (cmpi .sge (broadcastInDim S16384x1 ![0] bcast_S16384_S16384x1_0 (select (cmpi .slt x0 (broadcastInDim S16384 ![] bcast_S_S16384 (constantI S_ 32 0#32))) (addi x0 (broadcastInDim S16384 ![] bcast_S_S16384 (constantI S_ 32 100000#32))) x0)) (broadcastInDim S16384x1 ![] bcast_S_S16384x1 (constantI S_ 32 0#32))) (cmpi .sle (broadcastInDim S16384x1 ![0] bcast_S16384_S16384x1_0 (select (cmpi .slt x0 (broadcastInDim S16384 ![] bcast_S_S16384 (constantI S_ 32 0#32))) (addi x0 (broadcastInDim S16384 ![] bcast_S_S16384 (constantI S_ 32 100000#32))) x0)) (broadcastInDim S16384x1 ![0, 1] bcast_S1x1_S16384x1_0_1 (broadcastInDim S1x1 ![1] bcast_S1_S1x1_1 (constantI S1 32 99999#32))))) (constantI S_ 1 1#1) reducesTo_S16384x1_S16384_d1 h_S_)) (Host.gather gather_S100000x8x128_S16384x1_S16384x8x128_12_0_n_n_0_1_18128 x2 (broadcastInDim S16384x1 ![0] bcast_S16384_S16384x1_0 (select (cmpi .slt x0 (broadcastInDim S16384 ![] bcast_S_S16384 (constantI S_ 32 0#32))) (addi x0 (broadcastInDim S16384 ![] bcast_S_S16384 (constantI S_ 32 100000#32))) x0))) (broadcastInDim S16384x8x128 ![] bcast_S_S16384x8x128 (constant S_ .f32 0x7FC00000#32))) (Host.divf (Host.exp (subf (addf (Host.dotGeneral dot_S16384x512_S512x8_S16384x8_1_0_0_1_n_n none x1 x3) (broadcastInDim S16384x8 ![0, 1] bcast_S1x8_S16384x8_0_1 (broadcastInDim S1x8 ![1] bcast_S8_S1x8_1 x4))) (broadcastInDim S16384x8 ![0, 1] bcast_S16384x1_S16384x8_0_1 (broadcastInDim S16384x1 ![0] bcast_S16384_S16384x1_0 (maximumf (broadcastInDim S16384 ![] bcast_S_S16384 (constant S_ .f32 0xFF800000#32)) (Host.reduce FloatOps.maximumf (addf (Host.dotGeneral dot_S16384x512_S512x8_S16384x8_1_0_0_1_n_n none x1 x3) (broadcastInDim S16384x8 ![0, 1] bcast_S1x8_S16384x8_0_1 (broadcastInDim S1x8 ![1] bcast_S8_S1x8_1 x4))) (constant S_ .f32 0xFF800000#32) reducesTo_S16384x8_S16384_d1 h_S_)))))) (broadcastInDim S16384x8 ![0, 1] bcast_S16384x1_S16384x8_0_1 (broadcastInDim S16384x1 ![0] bcast_S16384_S16384x1_0 (Host.reduceAdd (Host.exp (subf (addf (Host.dotGeneral dot_S16384x512_S512x8_S16384x8_1_0_0_1_n_n none x1 x3) (broadcastInDim S16384x8 ![0, 1] bcast_S1x8_S16384x8_0_1 (broadcastInDim S1x8 ![1] bcast_S8_S1x8_1 x4))) (broadcastInDim S16384x8 ![0, 1] bcast_S16384x1_S16384x8_0_1 (broadcastInDim S16384x1 ![0] bcast_S16384_S16384x1_0 (maximumf (broadcastInDim S16384 ![] bcast_S_S16384 (constant S_ .f32 0xFF800000#32)) (Host.reduce FloatOps.maximumf (addf (Host.dotGeneral dot_S16384x512_S512x8_S16384x8_1_0_0_1_n_n none x1 x3) (broadcastInDim S16384x8 ![0, 1] bcast_S1x8_S16384x8_0_1 (broadcastInDim S1x8 ![1] bcast_S8_S1x8_1 x4))) (constant S_ .f32 0xFF800000#32) reducesTo_S16384x8_S16384_d1 h_S_)))))) (constant S_ .f32 0x00000000#32) reducesTo_S16384x8_S16384_d1 h_S_))))) (ValueIdx.ix2 b g)
      = ∑ n : Fin 8, x2 (ValueIdx.ix3 ⟨(x0 (ValueIdx.ix1 b)).toNat, hx _⟩ n g)
          * soft (fun k => (∑ d : Fin 512, x1 (ValueIdx.ix2 b d) * x3 (ValueIdx.ix2 d k)) + x4 (ValueIdx.ix1 k)) n := by
  pointwise
  refine Finset.sum_congr rfl fun n _ => ?_
  show Scalar.select (Finset.fold IntOp.andi 1#1 (fun _ : Fin 1 => IntOp.andi
      (IntOp.cmpi .sge (Scalar.select (IntOp.cmpi .slt (x0 (ValueIdx.ix1 b)) 0#32) (IntOp.addi (x0 (ValueIdx.ix1 b)) 100000#32) (x0 (ValueIdx.ix1 b))) 0#32)
      (IntOp.cmpi .sle (Scalar.select (IntOp.cmpi .slt (x0 (ValueIdx.ix1 b)) 0#32) (IntOp.addi (x0 (ValueIdx.ix1 b)) 100000#32) (x0 (ValueIdx.ix1 b))) 99999#32))
      Finset.univ) (Host.gather gather_S100000x8x128_S16384x1_S16384x8x128_12_0_n_n_0_1_18128 x2 _ (ValueIdx.ix3 b n g)) _ * _ = _
  have hw := wrap_word _ (hx (ValueIdx.ix1 b))
  rw [hw, mask_word _ (hx (ValueIdx.ix1 b))]
  have hi : broadcastInDim S16384x1 ![0] bcast_S16384_S16384x1_0 (select (cmpi .slt x0 (broadcastInDim S16384 ![] bcast_S_S16384 (constantI S_ 32 0#32)))
      (addi x0 (broadcastInDim S16384 ![] bcast_S_S16384 (constantI S_ 32 100000#32))) x0) (ValueIdx.ix2 b 0) = x0 (ValueIdx.ix1 b) := by
    pointwise
    exact hw
  rw [take_at _ _ b n g (by rw [hi]; exact hx _)]
  simp only [hi]
  simp only [max_fold]
  rw [show Finset.fold IntOp.andi 1#1 (fun _ : Fin 1 => 1#1) Finset.univ = 1#1 by decide]
  rfl

end Cert.Proof.Sc

end
-- ==== Proof.Value.lean ====
/-
  What the kernel computes at an index, over the extended reals: `∑ n, latents[latent_id[b], n, g] * gate[b, n]`, the gates
  the softmax that the reference takes.
-/
module

public import proofs.«01_k».proof.Proof.Gen.ReferenceIdeal.Run
public import proofs.«01_k».proof.Proof.Arrays
public import proofs.«01_k».proof.Proof.Reference
public import Idealize.ShloMosaic.Lib.Pipeline.ValueKit.Geometry

@[expose] public section

noncomputable section

namespace Cert.Proof.Sc

open Cert.KernelIdeal Cert.KernelIdeal.Gen
open Idealize.ShloMosaic Idealize.SL.Sem
open Idealize.ShloMosaic.TcCoe

/-! ## The gates -/

/-- A block's gates: the softmax of its rows' products with the weights, plus the bias. -/
theorem gate_block (v0 : Vec Ideal S4096x512 .f32) (v1 : Vec Ideal S512x8 .f32) (v3 : Vec Ideal S1x8 .f32) (r : Fin 4096) (n : Fin 8) :
    k0_pay1 (F := Ideal) v0 v1 v3 (ValueIdx.ix2 r ⟨n.1, by omega⟩)
      = soft (fun k => (∑ d : Fin 512, v0 (ValueIdx.ix2 r d) * v1 (ValueIdx.ix2 d k)) + v3 (ValueIdx.ix2 0 k)) n := by
  unfold k0_pay1
  pointwise
  rfl

section
variable {F : FTy → Type} [FloatOps F]

/-- The rows of the block that holds row `b`. -/
def blockRow (b : Fin 16384) (r : Fin 4096) : Fin 16384 := ⟨b.1 / 4096 * 4096 + r.1, by have := b.2; have := r.2; omega⟩

/-- The gates' array, from the state, the weights and the bias as a row. -/
def gatesArr (A : Vec F S16384x512 .f32) (W : Vec F S512x8 .f32) (B : Vec F S1x8 .f32) : S16384x16.Idx → F .f32 := fun i =>
  k0_pay1 (F := F) (fun x => A (ValueIdx.ix2 (blockRow (i 0) (x 0)) (x 1))) W B (ValueIdx.ix2 ⟨(i 0).1 % 4096, Nat.mod_lt _ (by decide)⟩ (i 1))

theorem gatesOut_eq (Val : (c : Dev nD) → (b : Ref sig .tc) → Buf (Elt F) ((c : Thread nD τ).loc b)) (c : Dev nD) :
    gatesOut Val c = gatesArr (Val c main_arg1) (Val c main_arg3) (Val c main_v0) := by
  refine (dat Val c).arrAt_eq_of_covers 3 _ (by decide +kernel) fun t hf y => ?_
  have e3 : ∀ t : Fin cfg0.N, win0_3.index t = ![t.1, 0] := (by decide +kernel : ∀ t : Fin grid0.N, _)
  have e0 : ∀ t : Fin cfg0.N, win0_0.index t = ![t.1, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![0, 0] := (by decide +kernel : ∀ t : Fin grid0.N, _)
  have hy0 : (y 0 : ℕ) < 4096 := (y 0).2
  have hy1 : (y 1 : ℕ) < 16 := (y 1).2
  have p0 : ((((cfg0.win 3).blk t).view.emb y 0 : Fin _) : ℕ) = t.1 * 4096 + (y 0 : ℕ) := by
    blk_simp [e3]
  have p1 : ((((cfg0.win 3).blk t).view.emb y 1 : Fin _) : ℕ) = (y 1 : ℕ) := by
    blk_simp [e3]
  have hW : wBlk Val c t = Val c main_arg3 := by
    funext x
    unfold wBlk
    blk_simp
    refine congrArg _ ?_
    blk_ext [e1]
  have hB : bBlk Val c t = Val c main_v0 := by
    funext x
    unfold bBlk
    blk_simp
    refine congrArg _ ?_
    blk_ext [e2]
  have hS : stBlk Val c t = fun x => Val c main_arg1 (ValueIdx.ix2 (blockRow (((cfg0.win 3).blk t).view.emb y 0) (x 0)) (x 1)) := by
    funext x
    unfold stBlk
    blk_simp
    refine congrArg _ (funext (Fin.forall_fin_two.mpr ⟨Fin.ext ?_, Fin.ext ?_⟩))
    · show _ = (((cfg0.win 3).blk t).view.emb y 0 : ℕ) / 4096 * 4096 + (x 0 : ℕ)
      rw [p0, show (t.1 * 4096 + (y 0 : ℕ)) / 4096 = t.1 by omega]
      blk_simp [e0]
    · show _ = (x 1 : ℕ)
      blk_simp [e0]
  show k0_pay1 (stBlk Val c t) (wBlk Val c t) (bBlk Val c t) y = _
  unfold gatesArr
  rw [hW, hB, hS]
  refine congrArg _ (funext (Fin.forall_fin_two.mpr ⟨Fin.ext ?_, Fin.ext ?_⟩))
  · show (y 0 : ℕ) = (((cfg0.win 3).blk t).view.emb y 0 : ℕ) % 4096
    omega
  · show (y 1 : ℕ) = (((cfg0.win 3).blk t).view.emb y 1 : ℕ)
    omega

/-- The bias as a row, when the gates are computed. -/
theorem bias_at (m : (ℓ : Loc nD τ sig) → Buf (Elt F) ℓ) (d : Dev nD) (k : Fin 8) :
    V1r m d main_v0 (ValueIdx.ix2 0 k) = m (d.tc.loc main_arg4) (ValueIdx.ix1 k) := by
  unfold V1r V1 ops0
  after_reads_at
  rfl

end

/-- The gate of row `b` and part `n`: the softmax of the row's product with the weights, plus the bias. -/
def gate (x1 : FVec Ideal S16384x512 .f32) (x3 : FVec Ideal S512x8 .f32) (x4 : FVec Ideal S8 .f32) (b : Fin 16384) (n : Fin 8) : EReal :=
  soft (fun k => (∑ j : Fin 512, x1 (ValueIdx.ix2 b j) * x3 (ValueIdx.ix2 j k)) + x4 (ValueIdx.ix1 k)) n

/-- The parts of the latent at row `b`'s index, mixed by the row's gates. -/
def mixed (x0 : IVec S16384 32) (x1 : FVec Ideal S16384x512 .f32) (x2 : FVec Ideal S100000x8x128 .f32) (x3 : FVec Ideal S512x8 .f32)
    (x4 : FVec Ideal S8 .f32) (hx : ∀ j, (x0 j).toNat < 100000) (b : Fin 16384) (g : Fin 128) : EReal :=
  ∑ n : Fin 8, x2 (ValueIdx.ix3 ⟨(x0 (ValueIdx.ix1 b)).toNat, hx _⟩ n g) * gate x1 x3 x4 b n

/-- The gates' array, at a row and a part. -/
theorem Gm_at (m : (ℓ : Loc nD τ sig) → Buf (Elt Ideal) ℓ) (d : Dev nD) (b : Fin 16384) (n : Fin 8) :
    Gm m d (ValueIdx.ix2 b ⟨n.1, by omega⟩)
      = gate (m (d.tc.loc main_arg1)) (m (d.tc.loc main_arg3)) (m (d.tc.loc main_arg4)) b n := by
  rw [Gm_eq, gatesOut_eq]
  refine (gate_block _ _ _ ⟨b.1 % 4096, Nat.mod_lt _ (by decide)⟩ n).trans ?_
  have hb : blockRow b ⟨b.1 % 4096, Nat.mod_lt _ (by decide)⟩ = b := Fin.ext (by show b.1 / 4096 * 4096 + b.1 % 4096 = b.1; omega)
  have h1 : V1r m d main_arg1 = m (d.tc.loc main_arg1) := V1_arg m d main_arg1 (by decide)
  have h3 : V1r m d main_arg3 = m (d.tc.loc main_arg3) := V1_arg m d main_arg3 (by decide)
  refine congrFun (congrArg soft (funext fun k => ?_)) n
  rw [h1, h3, bias_at]
  show (∑ j : Fin 512, (show FVec Ideal S16384x512 .f32 from m (d.tc.loc main_arg1)) (ValueIdx.ix2 (blockRow b ⟨b.1 % 4096, Nat.mod_lt _ (by decide)⟩) j)
    * (show FVec Ideal S512x8 .f32 from m (d.tc.loc main_arg3)) (ValueIdx.ix2 j k)) + _ = _
  rw [hb]

/-! ## The whole -/

/-- The word that names the row of the latents' array: eight rows to an index. -/
theorem word_at (w : BitVec 32) (n : ℕ) (hw : w.toNat < 100000) (hn : n < 8) :
    (IntOp.addi (IntOp.muli w 8#32) (BitVec.ofNat 32 n)).toNat = 8 * w.toNat + n := by
  show (w * 8#32 + BitVec.ofNat 32 n).toNat = _
  rw [BitVec.toNat_add, BitVec.toNat_mul, BitVec.toNat_ofNat, BitVec.toNat_ofNat]
  omega

/-- Eight summed in pairs, over the extended reals. -/
theorem tree8_sum (p : Fin 8 → EReal) : tree8 (F := Ideal) p = ∑ n, p n := by
  rw [Fin.sum_univ_eight]
  show ((p 0 + p 1) + (p 2 + p 3)) + ((p 4 + p 5) + (p 6 + p 7)) = _
  simp only [add_assoc]

/-- The kernel's output at an index. -/
theorem comb_at (m : (ℓ : Loc nD τ sig) → Buf (Elt Ideal) ℓ) (d : Dev nD)
    (hx : ∀ j, (m (d.tc.loc main_arg0) j : BitVec 32).toNat < 100000) (b : Fin 16384) (g : Fin 128) :
    comb (Tm m d) (Lm m d) (Gm m d) (ValueIdx.ix2 b g)
      = mixed (m (d.tc.loc main_arg0)) (m (d.tc.loc main_arg1)) (m (d.tc.loc main_arg2)) (m (d.tc.loc main_arg3)) (m (d.tc.loc main_arg4)) hx b g := by
  refine (tree8_sum _).trans (Finset.sum_congr rfl fun n _ => ?_)
  have hr : (Lm m d (ValueIdx.ix1 (li (8 * b.1 + n.1))) : BitVec 32).toNat = 8 * (m (d.tc.loc main_arg0) (ValueIdx.ix1 b) : BitVec 32).toNat + n.1 := by
    rw [Lm_at]
    have e1 : batchOf (li (8 * b.1 + n.1)) = b := Fin.ext (by unfold batchOf li; show (8 * b.1 + n.1) % 131072 / 8 = b.1; omega)
    have e2 : (li (8 * b.1 + n.1)).1 % 8 = n.1 := by unfold li; show (8 * b.1 + n.1) % 131072 % 8 = n.1; omega
    rw [e1, e2]
    exact word_at _ _ (hx _) n.2
  have hi := hx (ValueIdx.ix1 b)
  refine congrArg₂ (fun x y : EReal => x * y) ?_ (Gm_at m d b n)
  show Tm m d (ValueIdx.ix2 (ti (Lm m d (ValueIdx.ix1 (li (8 * b.1 + n.1))) : BitVec 32).toNat) g) = _
  rw [hr, Tm_at]
  refine congrArg _ ?_
  have f1 : latentOf (ti (8 * (m (d.tc.loc main_arg0) (ValueIdx.ix1 b) : BitVec 32).toNat + n.1)) = ⟨_, hi⟩ :=
    Fin.ext (by unfold latentOf ti; show (8 * (m (d.tc.loc main_arg0) (ValueIdx.ix1 b) : BitVec 32).toNat + n.1) % 800000 / 8 = (m (d.tc.loc main_arg0) (ValueIdx.ix1 b) : BitVec 32).toNat; omega)
  have f2 : (⟨(ti (8 * (m (d.tc.loc main_arg0) (ValueIdx.ix1 b) : BitVec 32).toNat + n.1)).1 % 8, Nat.mod_lt _ (by decide)⟩ : Fin 8) = n :=
    Fin.ext (by unfold ti; show (8 * (m (d.tc.loc main_arg0) (ValueIdx.ix1 b) : BitVec 32).toNat + n.1) % 800000 % 8 = _; omega)
  rw [f1]
  exact congrArg (fun k => ValueIdx.ix3 _ k g) f2

/-! ## The two programs agree -/

theorem algebraic : Cert.algebraic_KernelIdeal_ReferenceIdeal := by
  intro m ρ m' ρ' hpre hagree
  have hx : PreOK m := fun d j => ok_of_fn _ _ _ _ _ (hpre d) j
  refine ⟨fun c => comb (Tm m c) (Lm m c) (Gm m c), ?_, ?_⟩
  · exact (θ_run Cert.KernelIdeal.defs _ _).mono
      (fun r h c => ⟨(h.1 c).2, (h.1 c).1 main_arg0 (by decide), (h.1 c).1 main_arg1 (by decide), (h.1 c).1 main_arg2 (by decide),
        (h.1 c).1 main_arg3 (by decide), (h.1 c).1 main_arg4 (by decide)⟩)
      (run_main (F := Ideal) m ρ hx)
  · refine (θ_run Cert.ReferenceIdeal.defs _ _).mono (fun r h c => ⟨(h c).1.trans ?_, (h c).2⟩) (Cert.ReferenceIdeal.Value.run (F := Ideal) m' ρ')
    obtain ⟨h0, h1, h2, h3, h4⟩ := hagree c
    rw [h0, h1, h2, h3, h4]
    funext i
    have hi : i = ValueIdx.ix2 (i 0) (i 1) := funext (Fin.forall_fin_two.mpr ⟨rfl, rfl⟩)
    rw [hi]
    exact (ref_at _ _ _ _ _ (hx c) (i 0) (i 1)).trans (comb_at m c (hx c) (i 0) (i 1)).symm

end Cert.Proof.Sc

end
-- ==== Proof.lean ====
/-
  The proof of `Cert.Claim` (Defs.lean): every program runs to its end without a fault, leaves its arguments as they were and
  every semaphore counter at zero, and the kernel's result over the extended reals is the reference's. The modules: the tile's body from the inside out (Rows, RowLoop, Pieces, Trip, Spec, Copies,
  Ring, Task), the SparseCores' call (Tile), the region of the gates (Region), the whole program (Launch, Arrays), the
  frames (Frames), the reference's value (Reference) and the kernel's, which agrees with it (Value).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Sc.frame_kernel, Sc.frame_kernelIdeal, Sc.frame_reference, fun m ρ _ => Sc.frame_reference m ρ trivial, trivial, Sc.algebraic⟩

end Cert.Proof

end
